-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8192x1024 : Shape := ⟨2, ![8192, 1024]⟩
abbrev S8192 : Shape := ⟨1, ![8192]⟩
abbrev S9 : Shape := ⟨1, ![9]⟩
abbrev S1024 : Shape := ⟨1, ![1024]⟩
abbrev S1024x8192 : Shape := ⟨2, ![1024, 8192]⟩
abbrev S_ : Shape := ⟨0, ![]⟩
abbrev S8191 : Shape := ⟨1, ![8191]⟩
abbrev S1 : Shape := ⟨1, ![1]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S8192 : S_.BroadcastsInDim S8192 (![] : Fin 0 → Fin S8192.rank)
  reducesTo_S8192_S_d0 : S8192.ReducesTo [0] S_
  slices_S8192_S8191_1 : S8192.Slices ![1] S8191
  bcast_S_S8191 : S_.BroadcastsInDim S8191 (![] : Fin 0 → Fin S8191.rank)
  reducesTo_S8191_S_d0 : S8191.ReducesTo [0] S_
  bcast_S_S9 : S_.BroadcastsInDim S9 (![] : Fin 0 → Fin S9.rank)
  reducesTo_S9_S_d0 : S9.ReducesTo [0] S_
  slices_S9_S1_0 : S9.Slices ![0] S1
  shapeCasts_S1_S_ : S1.ShapeCasts S_
  slices_S9_S1_8 : S9.Slices ![8] S1

variable [Facts]

def fn_part2 {F : FTy → Type} [FloatOps F] (main_arg3 : IVec S9 32) (main_v31 : IVec S_ 1) (main_v33 : IVec S_ 32) (main_c_11 : IVec S_ 32) : IVec S_ 1 :=
  let main_v34 : IVec S_ 1 := cmpi .eq main_v33 main_c_11
  let main_v35 : IVec S_ 1 := andi main_v31 main_v34
  let main_v36 : IVec S1 32 := (extractStridedSlice S1 ![8] · slices_S9_S1_8) main_arg3
  let main_v37 : IVec S_ 32 := shapeCast S_ main_v36 shapeCasts_S1_S_
  let main_c_12 : IVec S_ 32 := constantI S_ 32 8192#32
  let main_v38 : IVec S_ 1 := cmpi .eq main_v37 main_c_12
  let main_v39 : IVec S_ 1 := andi main_v35 main_v38
  main_v39

def fn_part1 {F : FTy → Type} [FloatOps F] (main_arg1 : IVec S8192 32) (main_arg3 : IVec S9 32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : IVec S8191 32 := (extractStridedSlice S8191 ![1] · slices_S8192_S8191_1) main_arg1
  let main_c_6 : IVec S_ 32 := constantI S_ 32 0#32
  let main_v20 : IVec S8191 32 := broadcastInDim S8191 ![] bcast_S_S8191 main_c_6
  let main_v21 : IVec S8191 1 := cmpi .sge main_v19 main_v20
  let main_v22 : IVec S8191 32 := (extractStridedSlice S8191 ![1] · slices_S8192_S8191_1) main_arg1
  let main_c_7 : IVec S_ 32 := constantI S_ 32 8192#32
  let main_v23 : IVec S8191 32 := broadcastInDim S8191 ![] bcast_S_S8191 main_c_7
  let main_v24 : IVec S8191 1 := cmpi .slt main_v22 main_v23
  let main_v25 : IVec S8191 1 := andi main_v21 main_v24
  let main_c_8 : IVec S_ 1 := constantI S_ 1 1#1
  let main_v26 : IVec S_ 1 := (fun x v => Host.reduce IntOp.andi x v reducesTo_S8191_S_d0 h_S_) main_v25 main_c_8
  let main_v27 : IVec S_ 1 := andi main_v18 main_v26
  let main_c_9 : IVec S_ 32 := constantI S_ 32 0#32
  let main_v28 : IVec S9 32 := broadcastInDim S9 ![] bcast_S_S9 main_c_9
  let main_v29 : IVec S9 1 := cmpi .sge main_arg3 main_v28
  let main_c_10 : IVec S_ 1 := constantI S_ 1 1#1
  let main_v30 : IVec S_ 1 := (fun x v => Host.reduce IntOp.andi x v reducesTo_S9_S_d0 h_S_) main_v29 main_c_10
  let main_v31 : IVec S_ 1 := andi main_v27 main_v30
  let main_v32 : IVec S1 32 := (extractStridedSlice S1 ![0] · slices_S9_S1_0) main_arg3
  let main_v33 : IVec S_ 32 := shapeCast S_ main_v32 shapeCasts_S1_S_
  let main_c_11 : IVec S_ 32 := constantI S_ 32 0#32
  fn_part2 (F := F) main_arg3 main_v31 main_v33 main_c_11

def fn {F : FTy → Type} [FloatOps F] (main_arg0 : FVec F S8192x1024 .f32) (main_arg1 : IVec S8192 32) (main_arg2 : IVec S8192 1) (main_arg3 : IVec S9 32) (main_arg4 : FVec F S1024 .f32) (main_arg5 : FVec F S1024 .f32) (main_arg6 : FVec F S1024x8192 .f32) (main_arg7 : FVec F S8192 .f32) : IVec S_ 1 :=
  let main_v0 : FVec F S1024 .f32 := Host.absf main_arg4
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024 .f32 := Host.absf main_arg5
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x8192 .f32 := Host.absf main_arg6
  let main_cst_2 : FVec F S_ .f32 := constant S_ .f32 0x7F800000#32
  let main_v10 : FVec F S1024x8192 .f32 := broadcastInDim S1024x8192 ![] bcast_S_S1024x8192 main_cst_2
  let main_v11 : IVec S1024x8192 1 := cmpf .olt main_v9 main_v10
  let main_c_3 : IVec S_ 1 := constantI S_ 1 1#1
  let main_v12 : IVec S_ 1 := (fun x v => Host.reduce IntOp.andi x v reducesTo_S1024x8192_S_d0_1 h_S_) main_v11 main_c_3
  let main_v13 : IVec S_ 1 := andi main_v8 main_v12
  let main_v14 : FVec F S8192 .f32 := Host.absf main_arg7
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg1 main_arg3 main_v13 main_v16
-- ==== Kernel.lean ====
abbrev S8192x1024 : Shape := ⟨2, ![8192, 1024]⟩
abbrev S8192 : Shape := ⟨1, ![8192]⟩
abbrev S9 : Shape := ⟨1, ![9]⟩
abbrev S1024 : Shape := ⟨1, ![1024]⟩
abbrev S1024x8192 : Shape := ⟨2, ![1024, 8192]⟩
abbrev S8191 : Shape := ⟨1, ![8191]⟩
abbrev S_ : Shape := ⟨0, ![]⟩
abbrev S1 : Shape := ⟨1, ![1]⟩
abbrev S8x1x1024 : Shape := ⟨3, ![8, 1, 1024]⟩
abbrev S1x16 : Shape := ⟨2, ![1, 16]⟩
abbrev S2 : Shape := ⟨1, ![2]⟩
abbrev S1x8192 : Shape := ⟨2, ![1, 8192]⟩
abbrev S1x1024 : Shape := ⟨2, ![1, 1024]⟩
abbrev S1x1 : Shape := ⟨2, ![1, 1]⟩
abbrev S1024x1024 : Shape := ⟨2, ![1024, 1024]⟩
abbrev S1x1x1024 : Shape := ⟨3, ![1, 1, 1024]⟩
abbrev S128x8192 : Shape := ⟨2, ![128, 8192]⟩
abbrev S1024x1 : Shape := ⟨2, ![1024, 1]⟩
abbrev S1024x2048 : Shape := ⟨2, ![1024, 2048]⟩
abbrev S1024x128 : Shape := ⟨2, ![1024, 128]⟩
abbrev S1x2048 : Shape := ⟨2, ![1, 2048]⟩
abbrev S1024x16 : Shape := ⟨2, ![1024, 16]⟩
abbrev S1x1024x1 : Shape := ⟨3, ![1, 1024, 1]⟩
abbrev S1x1x1 : Shape := ⟨3, ![1, 1, 1]⟩

abbrev nBuf : Space → Nat
  | .hbm => 32
  | .vmem => 14
  | .smem => 1
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S8192, .i1⟩
  | .hbm, ⟨3, _⟩ => ⟨S9, .i32⟩
  | .hbm, ⟨4, _⟩ => ⟨S1024, .f32⟩
  | .hbm, ⟨5, _⟩ => ⟨S1024, .f32⟩
  | .hbm, ⟨6, _⟩ => ⟨S1024x8192, .f32⟩
  | .hbm, ⟨7, _⟩ => ⟨S8192, .f32⟩
  | .hbm, ⟨8, _⟩ => ⟨S8191, .i32⟩
  | .hbm, ⟨9, _⟩ => ⟨S_, .i32⟩
  | .hbm, ⟨10, _⟩ => ⟨S1, .i32⟩
  | .hbm, ⟨11, _⟩ => ⟨S8192, .i32⟩
  | .hbm, ⟨12, _⟩ => ⟨S8191, .i1⟩
  | .hbm, ⟨13, _⟩ => ⟨S_, .i1⟩
  | .hbm, ⟨14, _⟩ => ⟨S1, .i1⟩
  | .hbm, ⟨15, _⟩ => ⟨S8192, .i1⟩
  | .hbm, ⟨16, _⟩ => ⟨S8x1x1024, .i32⟩
  | .hbm, ⟨17, _⟩ => ⟨S8192, .f32⟩
  | .hbm, ⟨18, _⟩ => ⟨S8x1x1024, .f32⟩
  | .hbm, ⟨19, _⟩ => ⟨S_, .i32⟩
  | .hbm, ⟨20, _⟩ => ⟨S1x16, .i32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S1x16, .i32⟩
  | .hbm, ⟨27, _⟩ => ⟨S1x8192, .f32⟩
  | .hbm, ⟨28, _⟩ => ⟨S1x1024, .f32⟩
  | .hbm, ⟨29, _⟩ => ⟨S1x1024, .f32⟩
  | .hbm, ⟨30, _⟩ => ⟨S1x1, .f32⟩
  | .hbm, ⟨31, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1x8192, .f32⟩
  | .local _ .vmem, ⟨3, _⟩ => ⟨S1x1x1024, .i32⟩
  | .local _ .vmem, ⟨4, _⟩ => ⟨S1x1x1024, .i32⟩
  | .local _ .vmem, ⟨5, _⟩ => ⟨S1x1x1024, .f32⟩
  | .local _ .vmem, ⟨6, _⟩ => ⟨S1x1x1024, .f32⟩
  | .local _ .vmem, ⟨7, _⟩ => ⟨S1x16, .i32⟩
  | .local _ .vmem, ⟨8, _⟩ => ⟨S1x1024, .f32⟩
  | .local _ .vmem, ⟨9, _⟩ => ⟨S1x1024, .f32⟩
  | .local _ .vmem, ⟨10, _⟩ => ⟨S1x1, .f32⟩
  | .local _ .vmem, ⟨11, _⟩ => ⟨S1024x8192, .bf16⟩
  | .local _ .vmem, ⟨12, _⟩ => ⟨S128x8192, .f32⟩
  | .local _ .vmem, ⟨13, _⟩ => ⟨S128x8192, .f32⟩
  | .local _ .smem, ⟨0, _⟩ => ⟨S2, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch5 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v387 : BitVec 1 := Scalar.cmpi .eq arg0 c7_i32
  let v388 : BitVec 32 := Scalar.extui v387
  let c0_i32_54 : BitVec 32 := 0#32
  let v389 : BitVec 1 := Scalar.cmpi .ne v388 c0_i32_54
  v389

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x16 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S8192x1024 : Shape := ⟨2, ![8192, 1024]⟩
abbrev S8192 : Shape := ⟨1, ![8192]⟩
abbrev S9 : Shape := ⟨1, ![9]⟩
abbrev S1024 : Shape := ⟨1, ![1024]⟩
abbrev S1024x8192 : Shape := ⟨2, ![1024, 8192]⟩
abbrev S7 : Shape := ⟨1, ![7]⟩
abbrev S_ : Shape := ⟨0, ![]⟩
abbrev S7x1 : Shape := ⟨2, ![7, 1]⟩
abbrev S8191 : Shape := ⟨1, ![8191]⟩
abbrev S8191x1024 : Shape := ⟨2, ![8191, 1024]⟩
abbrev S8191x1 : Shape := ⟨2, ![8191, 1]⟩
abbrev S1x1024 : Shape := ⟨2, ![1, 1024]⟩
abbrev S8191x8192 : Shape := ⟨2, ![8191, 8192]⟩
abbrev S1x8192 : Shape := ⟨2, ![1, 8192]⟩
abbrev S8191x1x1 : Shape := ⟨3, ![8191, 1, 1]⟩
abbrev S1 : Shape := ⟨1, ![1]⟩
abbrev S1x1x1 : Shape := ⟨3, ![1, 1, 1]⟩

abbrev nBuf : Space → Nat
  | .hbm => 120
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S8192, .i1⟩
  | .hbm, ⟨3, _⟩ => ⟨S9, .i32⟩
  | .hbm, ⟨4, _⟩ => ⟨S1024, .f32⟩
  | .hbm, ⟨5, _⟩ => ⟨S1024, .f32⟩
  | .hbm, ⟨6, _⟩ => ⟨S1024x8192, .f32⟩
  | .hbm, ⟨7, _⟩ => ⟨S8192, .f32⟩
  | .hbm, ⟨8, _⟩ => ⟨S7, .i32⟩
  | .hbm, ⟨9, _⟩ => ⟨S_, .i32⟩
  | .hbm, ⟨10, _⟩ => ⟨S7, .i32⟩
  | .hbm, ⟨11, _⟩ => ⟨S7, .i1⟩
  | .hbm, ⟨12, _⟩ => ⟨S_, .i32⟩
  | .hbm, ⟨13, _⟩ => ⟨S7, .i32⟩
  | .hbm, ⟨14, _⟩ => ⟨S7, .i32⟩
  | .hbm, ⟨15, _⟩ => ⟨S7, .i32⟩
  | .hbm, ⟨16, _⟩ => ⟨S7x1, .i32⟩
  | .hbm, ⟨17, _⟩ => ⟨S_, .i1⟩
  | .hbm, ⟨18, _⟩ => ⟨S7, .i1⟩
  | .hbm, ⟨19, _⟩ => ⟨S8192, .i1⟩
  | .hbm, ⟨20, _⟩ => ⟨S8191, .i32⟩
  | .hbm, ⟨21, _⟩ => ⟨S8191, .i1⟩
  | .hbm, ⟨22, _⟩ => ⟨S8191, .f32⟩
  | .hbm, ⟨23, _⟩ => ⟨S8191x1024, .f32⟩
  | .hbm, ⟨24, _⟩ => ⟨S_, .f32⟩
  | .hbm, ⟨25, _⟩ => ⟨S8191, .f32⟩
  | .hbm, ⟨26, _⟩ => ⟨S8191x1, .f32⟩
  | .hbm, ⟨27, _⟩ => ⟨S_, .f32⟩
  | .hbm, ⟨28, _⟩ => ⟨S8191x1, .f32⟩
  | .hbm, ⟨29, _⟩ => ⟨S8191x1, .f32⟩
  | .hbm, ⟨30, _⟩ => ⟨S_, .i32⟩
  | .hbm, ⟨31, _⟩ => ⟨S_, .f32⟩
  | .hbm, ⟨32, _⟩ => ⟨S8191, .f32⟩
  | .hbm, ⟨33, _⟩ => ⟨S8191x1, .f32⟩
  | .hbm, ⟨34, _⟩ => ⟨S_, .f32⟩
  | .hbm, ⟨35, _⟩ => ⟨S8191x1, .f32⟩
  | .hbm, ⟨36, _⟩ => ⟨S8191x1, .f32⟩
  | .hbm, ⟨37, _⟩ => ⟨S8191x1024, .f32⟩
  | .hbm, ⟨38, _⟩ => ⟨S8191x1024, .f32⟩
  | .hbm, ⟨39, _⟩ => ⟨S8191x1024, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8191, .f32⟩
  | .hbm, ⟨45, _⟩ => ⟨S8191x1, .f32⟩
  | .hbm, ⟨46, _⟩ => ⟨S8191x1, .f32⟩
  | .hbm, ⟨47, _⟩ => ⟨S8191x1, .f32⟩
  | .hbm, ⟨48, _⟩ => ⟨S_, .f32⟩
  | .hbm, ⟨49, _⟩ => ⟨S_, .i1⟩
  | .hbm, ⟨50, _⟩ => ⟨S_, .f32⟩
  | .hbm, ⟨51, _⟩ => ⟨S_, .f32⟩
  | .hbm, ⟨52, _⟩ => ⟨S8191x1, .f32⟩
  | .hbm, ⟨53, _⟩ => ⟨S8191x1, .f32⟩
  | .hbm, ⟨54, _⟩ => ⟨S8191x1024, .f32⟩
  | .hbm, ⟨55, _⟩ => ⟨S8191x1024, .f32⟩
  | .hbm, ⟨56, _⟩ => ⟨S_, .f32⟩
  | .hbm, ⟨57, _⟩ => ⟨S8191x1, .f32⟩
  | .hbm, ⟨58, _⟩ => ⟨S8191x1, .f32⟩
  | .hbm, ⟨59, _⟩ => ⟨S8191x1, .f32⟩
  | .hbm, ⟨60, _⟩ => ⟨S8191x1024, .f32⟩
  | .hbm, ⟨61, _⟩ => ⟨S8191x1024, .f32⟩
  | .hbm, ⟨62, _⟩ => ⟨S1x1024, .f32⟩
  | .hbm, ⟨63, _⟩ => ⟨S8191x1024, .f32⟩
  | .hbm, ⟨64, _⟩ => ⟨S8191x1024, .f32⟩
  | .hbm, ⟨65, _⟩ => ⟨S1x1024, .f32⟩
  | .hbm, ⟨66, _⟩ => ⟨S8191x1024, .f32⟩
  | .hbm, ⟨67, _⟩ => ⟨S8191x1024, .f32⟩
  | .hbm, ⟨68, _⟩ => ⟨S8191x8192, .f32⟩
  | .hbm, ⟨69, _⟩ => ⟨S1x8192, .f32⟩
  | .hbm, ⟨70, _⟩ => ⟨S8191x8192, .f32⟩
  | .hbm, ⟨71, _⟩ => ⟨S8191x8192, .f32⟩
  | .hbm, ⟨72, _⟩ => ⟨S_, .f32⟩
  | .hbm, ⟨73, _⟩ => ⟨S8191, .f32⟩
  | .hbm, ⟨74, _⟩ => ⟨S_, .f32⟩
  | .hbm, ⟨75, _⟩ => ⟨S8191, .f32⟩
  | .hbm, ⟨76, _⟩ => ⟨S8191, .f32⟩
  | .hbm, ⟨77, _⟩ => ⟨S8191x1, .f32⟩
  | .hbm, ⟨78, _⟩ => ⟨S8191x8192, .f32⟩
  | .hbm, ⟨79, _⟩ => ⟨S8191x8192, .f32⟩
  | .hbm, ⟨80, _⟩ => ⟨S8191x8192, .f32⟩
  | .hbm, ⟨81, _⟩ => ⟨S_, .f32⟩
  | .hbm, ⟨82, _⟩ => ⟨S8191, .f32⟩
  | .hbm, ⟨83, _⟩ => ⟨S8191x1, .f32⟩
  | .hbm, ⟨84, _⟩ => ⟨S8191x1, .f32⟩
  | .hbm, ⟨85, _⟩ => ⟨S8191x8192, .f32⟩
  | .hbm, ⟨86, _⟩ => ⟨S8191x8192, .f32⟩
  | .hbm, ⟨87, _⟩ => ⟨S8191x1, .i32⟩
  | .hbm, ⟨88, _⟩ => ⟨S_, .i32⟩
  | .hbm, ⟨89, _⟩ => ⟨S8191x1, .i32⟩
  | .hbm, ⟨90, _⟩ => ⟨S8191x1, .i1⟩
  | .hbm, ⟨91, _⟩ => ⟨S_, .i32⟩
  | .hbm, ⟨92, _⟩ => ⟨S8191x1, .i32⟩
  | .hbm, ⟨93, _⟩ => ⟨S8191x1, .i32⟩
  | .hbm, ⟨94, _⟩ => ⟨S8191x1, .i32⟩
  | .hbm, ⟨95, _⟩ => ⟨S8191x1x1, .i32⟩
  | .hbm, ⟨96, _⟩ => ⟨S1, .i32⟩
  | .hbm, ⟨97, _⟩ => ⟨S_, .i32⟩
  | .hbm, ⟨98, _⟩ => ⟨S8191x1x1, .i32⟩
  | .hbm, ⟨99, _⟩ => ⟨S8191x1x1, .i1⟩
  | .hbm, ⟨100, _⟩ => ⟨S1x1x1, .i32⟩
  | .hbm, ⟨101, _⟩ => ⟨S8191x1x1, .i32⟩
  | .hbm, ⟨102, _⟩ => ⟨S8191x1x1, .i1⟩
  | .hbm, ⟨103, _⟩ => ⟨S8191x1x1, .i1⟩
  | .hbm, ⟨104, _⟩ => ⟨S_, .i1⟩
  | .hbm, ⟨105, _⟩ => ⟨S8191x1, .i1⟩
  | .hbm, ⟨106, _⟩ => ⟨S8191x1, .f32⟩
  | .hbm, ⟨107, _⟩ => ⟨S_, .f32⟩
  | .hbm, ⟨108, _⟩ => ⟨S8191x1, .f32⟩
  | .hbm, ⟨109, _⟩ => ⟨S8191x1, .f32⟩
  | .hbm, ⟨110, _⟩ => ⟨S8191, .f32⟩
  | .hbm, ⟨111, _⟩ => ⟨S8191, .f32⟩
  | .hbm, ⟨112, _⟩ => ⟨S8191, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_cst_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_cst_1 : Ref sig .tc := ⟨.hbm, 41, rfl⟩
abbrev main_call0_v8 : Ref sig .tc := ⟨.hbm, 42, rfl⟩
abbrev main_call0_cst_2 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_v12 : Ref sig .tc := ⟨.hbm, 47, rfl⟩
abbrev main_call0_cst_3 : Ref sig .tc := ⟨.hbm, 48, rfl⟩
abbrev main_call0_v13 : Ref sig .tc := ⟨.hbm, 49, rfl⟩
abbrev main_call0_cst_4 : Ref sig .tc := ⟨.hbm, 50, rfl⟩
abbrev main_call0_call0_v0 : Ref sig .tc := ⟨.hbm, 51, rfl⟩
abbrev main_call0_call0_v1 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_cst_4 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_call1_cst : Ref sig .tc := ⟨.hbm, 72, rfl⟩
abbrev main_call1_v0 : Ref sig .tc := ⟨.hbm, 73, rfl⟩
abbrev main_call1_cst_0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_v5 : Ref sig .tc := ⟨.hbm, 79, rfl⟩
abbrev main_call1_v6 : Ref sig .tc := ⟨.hbm, 80, rfl⟩
abbrev main_call1_cst_1 : Ref sig .tc := ⟨.hbm, 81, rfl⟩
abbrev main_call1_v7 : Ref sig .tc := ⟨.hbm, 82, rfl⟩
abbrev main_call1_v8 : Ref sig .tc := ⟨.hbm, 83, rfl⟩
abbrev main_call1_v9 : Ref sig .tc := ⟨.hbm, 84, rfl⟩
abbrev main_call1_v10 : Ref sig .tc := ⟨.hbm, 85, rfl⟩
abbrev main_v35 : Ref sig .tc := ⟨.hbm, 86, rfl⟩
abbrev main_v36 : Ref sig .tc := ⟨.hbm, 87, rfl⟩
abbrev main_call2_c : Ref sig .tc := ⟨.hbm, 88, rfl⟩
abbrev main_call2_v0 : Ref sig .tc := ⟨.hbm, 89, rfl⟩
abbrev main_call2_v1 : Ref sig .tc := ⟨.hbm, 90, rfl⟩
abbrev main_call2_c_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_c_1 : Ref sig .tc := ⟨.hbm, 96, rfl⟩
abbrev main_call2_c_2 : Ref sig .tc := ⟨.hbm, 97, rfl⟩
abbrev main_call2_v6 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_c_3 : Ref sig .tc := ⟨.hbm, 104, rfl⟩
abbrev main_call2_v12 : Ref sig .tc := ⟨.hbm, 105, rfl⟩
abbrev main_call2_v13 : Ref sig .tc := ⟨.hbm, 106, rfl⟩
abbrev main_call2_cst : Ref sig .tc := ⟨.hbm, 107, rfl⟩
abbrev main_call2_v14 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_cst_5 : Ref sig .tc := ⟨.hbm, 113, rfl⟩
abbrev main_v41 : Ref sig .tc := ⟨.hbm, 114, rfl⟩
abbrev main_cst_6 : Ref sig .tc := ⟨.hbm, 115, rfl⟩
abbrev main_v42 : Ref sig .tc := ⟨.hbm, 116, rfl⟩
abbrev main_cst_7 : Ref sig .tc := ⟨.hbm, 117, rfl⟩
abbrev main_v43 : Ref sig .tc := ⟨.hbm, 118, rfl⟩
abbrev main_v44 : Ref sig .tc := ⟨.hbm, 119, rfl⟩

abbrev nD : Nat := 1
abbrev τ : Topo := Topo.v7x

variable {F : FTy → Type} [FloatOps F]
-- ==== Proof.Step.lean ====
module

public import proofs.«01_k».proof.Proof.Gen.KernelIdeal.Frame
public import Idealize.ShloMosaic.Lib.Pipeline.Value
public import Idealize.ShloMosaic.Lib.Tactic

/-!
What one grid point of the kernel computes, as functions of the blocks it reads: the negative log likelihood column of
its 1024 rows, the two running sums after it, and the quotient the last point writes.
-/

@[expose] public section

noncomputable section

namespace Cert.KernelIdeal.Value

open Cert.KernelIdeal Cert.KernelIdeal.Gen Idealize.ShloMosaic Idealize.ShloMosaic.TcCoe Idealize.SL.Sem

variable {F : FTy → Type} [FloatOps F]

/-- The columns `[0, 2048)` of the weights. -/
def wcol0 (wb : Vec F S1024x8192 .bf16) : Vec F S1024x2048 .bf16 :=
  View.ld wb (Rect.unit ![0, 0] S1024x2048.size inb_S1024x8192_S1024x2048_0_0)
/-- The columns `[2048, 4096)` of the weights. -/
def wcol1 (wb : Vec F S1024x8192 .bf16) : Vec F S1024x2048 .bf16 :=
  View.ld wb (Rect.unit ![0, 2048] S1024x2048.size inb_S1024x8192_S1024x2048_0_2048)
/-- The columns `[4096, 6144)` of the weights. -/
def wcol2 (wb : Vec F S1024x8192 .bf16) : Vec F S1024x2048 .bf16 :=
  View.ld wb (Rect.unit ![0, 4096] S1024x2048.size inb_S1024x8192_S1024x2048_0_4096)
/-- The columns `[6144, 8192)` of the weights. -/
def wcol3 (wb : Vec F S1024x8192 .bf16) : Vec F S1024x2048 .bf16 :=
  View.ld wb (Rect.unit ![0, 6144] S1024x2048.size inb_S1024x8192_S1024x2048_0_6144)
/-- The columns `[0, 2048)` of the bias. -/
def bcol0 (b : Vec F S1x8192 .f32) : Vec F S1x2048 .f32 :=
  View.ld b (Rect.unit ![0, 0] S1x2048.size inb_S1x8192_S1x2048_0_0)
/-- The columns `[2048, 4096)` of the bias. -/
def bcol1 (b : Vec F S1x8192 .f32) : Vec F S1x2048 .f32 :=
  View.ld b (Rect.unit ![0, 2048] S1x2048.size inb_S1x8192_S1x2048_0_2048)
/-- The columns `[4096, 6144)` of the bias. -/
def bcol2 (b : Vec F S1x8192 .f32) : Vec F S1x2048 .f32 :=
  View.ld b (Rect.unit ![0, 4096] S1x2048.size inb_S1x8192_S1x2048_0_4096)
/-- The columns `[6144, 8192)` of the bias. -/
def bcol3 (b : Vec F S1x8192 .f32) : Vec F S1x2048 .f32 :=
  View.ld b (Rect.unit ![0, 6144] S1x2048.size inb_S1x8192_S1x2048_0_6144)

/-- The column numbers of one block of 2048 columns. -/
def colIota : IVec S1024x2048 32 := iota .tc S1024x2048 32 [1] iota_S1024x2048_d1_w32

section Chain
variable (x0 : Vec F S1024x1024 .f32) (x1 : Vec F S1x8192 .f32) (x2 : Vec F S1x1x1024 .i32)
  (x5 x6 : Vec F S1x1024 .f32) (wb : Vec F S1024x8192 .bf16)

/-- The lane sums of the exponentials after the first block of columns. -/
def esum0 : FVec F S1024x128 .f32 := k0_pay21 k0_pay16 (k0_pay18 x0 x5 x6 (wcol0 wb)) (bcol0 x1)

/-- The lane sums of the label's exponential after the first block. -/
def qsum0 : FVec F S1024x128 .f32 :=
  let v31 := k0_pay15 x2
  let v36 := k0_pay18 x0 x5 x6 (wcol0 wb)
  let v37 := bcol0 x1
  k0_pay35 k0_pay17 (k0_pay20 v31 colIota v36 v37)
    (k0_pay22 v31 colIota v36 v37) (k0_pay23 v31 colIota v36 v37) (k0_pay24 v31 colIota v36 v37)
    (k0_pay25 v31 colIota v36 v37) (k0_pay26 v31 colIota v36 v37) (k0_pay27 v31 colIota v36 v37)
    (k0_pay28 v31 colIota v36 v37) (k0_pay29 v31 colIota v36 v37) (k0_pay30 v31 colIota v36 v37)
    (k0_pay31 v31 colIota v36 v37) (k0_pay32 v31 colIota v36 v37) (k0_pay33 v31 colIota v36 v37)
    (k0_pay34 v31 colIota v36 v37)

/-- The lane sums of the exponentials after the second block. -/
def esum1 : FVec F S1024x128 .f32 :=
  let v28 := k0_pay14 x0 x5 x6
  let w := wcol1 wb
  let b := bcol1 x1
  k0_pay49 (esum0 x0 x1 x5 x6 wb) (k0_pay38 v28 w b) (k0_pay39 v28 w b) (k0_pay40 v28 w b) (k0_pay41 v28 w b)
    (k0_pay42 v28 w b) (k0_pay43 v28 w b) (k0_pay44 v28 w b) (k0_pay45 v28 w b) (k0_pay46 v28 w b)
    (k0_pay47 v28 w b) (k0_pay48 v28 w b)

/-- The lane sums of the label's exponential after the second block. -/
def qsum1 : FVec F S1024x128 .f32 :=
  k0_pay50 (qsum0 x0 x1 x2 x5 x6 wb) (k0_pay37 (k0_pay14 x0 x5 x6) (k0_pay15 x2) colIota (wcol1 wb) (bcol1 x1))

/-- The exponentials of the third block. -/
def exps2 : FVec F S1024x2048 .f32 := k0_pay51 (k0_pay14 x0 x5 x6) (wcol2 wb) (bcol2 x1)

/-- The lane sums of the exponentials after the third block. -/
def esum2 : FVec F S1024x128 .f32 := k0_pay54 (esum1 x0 x1 x5 x6 wb) (exps2 x0 x1 x5 x6 wb)

/-- The lane sums of the label's exponential after the third block. -/
def qsum2 : FVec F S1024x128 .f32 :=
  let e := exps2 x0 x1 x5 x6 wb
  let k := k0_pay52 (k0_pay15 x2) colIota
  k0_pay62 (qsum1 x0 x1 x2 x5 x6 wb) (k0_pay55 e k) (k0_pay56 e k) (k0_pay57 e k) (k0_pay58 e k) (k0_pay59 e k)
    (k0_pay60 e k) (k0_pay61 e k)

/-- The lane sums of the exponentials after all four blocks. -/
def esum3 : FVec F S1024x128 .f32 :=
  k0_pay65 (k0_pay14 x0 x5 x6) (esum2 x0 x1 x5 x6 wb) (wcol3 wb) (bcol3 x1)

/-- The negative log likelihood of each row, as the kernel computes it. -/
def nllCol : FVec F S1024x1 .f32 :=
  let v28 := k0_pay14 x0 x5 x6
  let v31 := k0_pay15 x2
  k0_pay67 (qsum2 x0 x1 x2 x5 x6 wb) (k0_pay64 v28 v31 colIota (wcol3 wb) (bcol3 x1)) (esum3 x0 x1 x5 x6 wb)
    (k0_pay66 v28 v31 colIota (wcol3 wb) (bcol3 x1))

end Chain

variable (i : grid0.Coords)
  (x0 : Vec F S1024x1024 .f32) (x1 : Vec F S1x8192 .f32) (x2 : Vec F S1x1x1024 .i32) (x3 : Vec F S1x1x1024 .f32)
  (x4 : Vec F S1x16 .i32) (x5 x6 : Vec F S1x1024 .f32) (wb : Vec F S1024x8192 .bf16)

/-- Whether each row's next position is one of the sixteen boundaries, as ones and zeros. -/
def hits : FVec F S1024x16 .f32 := k0_pay68 (BitVec.ofNat 32 (i 0).val) x4

/-- The loss sum after a point that met `old`. -/
def lossStep (old : F .f32) : F .f32 := k0_pay2 (nllCol x0 x1 x2 x5 x6 wb) (hits i x4) x3 old

/-- The count after a point that met `old`. -/
def countStep (old : F .f32) : F .f32 := k0_pay3 (hits (F := F) i x4) x3 old

end Cert.KernelIdeal.Value
end
-- ==== Proof.Points.lean ====
module

public import proofs.«01_k».proof.Proof.Step
public import Idealize.ShloMosaic.Lib.Pointwise

/-!
What the kernel leaves after a grid point, in each of its three cases (the first point, a middle one, the last): the
functions of `Step`, of the blocks the point reads and of what it met.
-/

@[expose] public section

noncomputable section

namespace Cert.KernelIdeal.Value

open Cert.KernelIdeal Cert.KernelIdeal.Gen Idealize.ShloMosaic Idealize.ShloMosaic.TcCoe Idealize.SL.Sem

variable {F : FTy → Type} [FloatOps F]

/-- Two zero offsets are the zero function. -/
theorem hz2 : (![0, 0] : Fin 2 → Nat) = fun _ => 0 := funext fun a => by fin_cases a <;> rfl
/-- Three zero offsets are the zero function. -/
theorem hz3 : (![0, 0, 0] : Fin 3 → Nat) = fun _ => 0 := funext fun a => by fin_cases a <;> rfl

/-- The first of the two cells is not in the rectangle of the second. -/
theorem cell0_not_mem : (ix1 (0 : Fin 2) : S2.Idx) ∉ (Rect.unit (s := S2) ![1] ![1] inb_S2_S1_1).set := by
  rw [Rect.mem_set_unit]
  intro h
  have := (h 0).1
  exact absurd this (by decide)

/-- A write of one word to the second cell and, before it, one to the first: the second cell holds the last. -/
theorem canon_cell1 (w : S1.Idx → F .f32) (L : List (View.Piece (Elt F) S2 .f32)) :
    View.canon (Val := Elt F) (e := .f32) (⟨Rect.unit (s := S2) ![1] ![1] inb_S2_S1_1, w⟩ :: L) (ix1 (1 : Fin 2)) = w (ix1 (0 : Fin 1)) := by
  have h : (ix1 (1 : Fin 2) : S2.Idx) = (Rect.unit (s := S2) ![1] ![1] inb_S2_S1_1).emb (ix1 (0 : Fin 1)) := by
    funext a; apply Fin.ext; fin_cases a; rfl
  exact (congrArg _ h).trans (View.canon_cons_emb _ _ _ _)
/-- The first cell holds what the last write to it stored, a later one to the second cell notwithstanding. -/
theorem canon_cell0 (w w' : S1.Idx → F .f32) (L : List (View.Piece (Elt F) S2 .f32)) :
    View.canon (Val := Elt F) (e := .f32) (⟨Rect.unit (s := S2) ![1] ![1] inb_S2_S1_1, w'⟩ :: ⟨Rect.unit (s := S2) ![0] ![1] inb_S2_S1_0, w⟩ :: L) (ix1 (0 : Fin 2))
      = w (ix1 (0 : Fin 1)) := by
  refine (View.canon_cons_of_not_mem (Val := Elt F) (e := .f32) ⟨Rect.unit (s := S2) ![1] ![1] inb_S2_S1_1, w'⟩ (⟨Rect.unit (s := S2) ![0] ![1] inb_S2_S1_0, w⟩ :: L) cell0_not_mem).trans ?_
  have h : (ix1 (0 : Fin 2) : S2.Idx) = (Rect.unit (s := S2) ![0] ![1] inb_S2_S1_0).emb (ix1 (0 : Fin 1)) := by
    funext a; apply Fin.ext; fin_cases a; rfl
  exact (congrArg _ h).trans (View.canon_cons_emb _ _ _ _)

/-- A load of the first cell. -/
theorem ld_cell0 (x : Vec F S2 .f32) (y : S1.Idx) : View.ld (Val := Elt F) (e' := .f32) x (Rect.unit (s := S2) ![0] ![1] inb_S2_S1_0) y = x (ix1 (0 : Fin 2)) := by
  show x _ = x _
  congr 1; funext a; apply Fin.ext; fin_cases a
  have : (y 0).val < 1 := (y 0).isLt
  show 0 + 1 * (y 0).val = 0
  omega
/-- A load of the second cell. -/
theorem ld_cell1 (x : Vec F S2 .f32) (y : S1.Idx) : View.ld (Val := Elt F) (e' := .f32) x (Rect.unit (s := S2) ![1] ![1] inb_S2_S1_1) y = x (ix1 (1 : Fin 2)) := by
  show x _ = x _
  congr 1; funext a; apply Fin.ext; fin_cases a
  have : (y 0).val < 1 := (y 0).isLt
  show 1 + 1 * (y 0).val = 1
  omega

variable (c : Dev nD) (i : grid0.Coords)
  (arg1 : Memref sig .tc .vmem S1024x1024 .f32) (harg1 : arg1.IsWhole)
  (arg3 : Memref sig .tc .vmem S1x8192 .f32) (harg3 : arg3.IsWhole)
  (arg4 : Memref sig .tc .vmem S1x1x1024 .i32) (harg4 : arg4.IsWhole)
  (arg5 : Memref sig .tc .vmem S1x1x1024 .f32) (harg5 : arg5.IsWhole)
  (arg6 : Memref sig .tc .vmem S1x16 .i32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1x1 .f32) (harg9 : arg9.IsWhole)
  (arg10 : Memref sig .tc .vmem S1024x8192 .bf16) (harg10 : arg10.IsWhole)
  (arg11 : Memref sig .tc .vmem S128x8192 .f32) (harg11 : arg11.IsWhole)
  (arg12 : Memref sig .tc .vmem S128x8192 .f32) (harg12 : arg12.IsWhole)
  (arg15 : Memref sig .tc .smem S2 .f32) (harg15 : arg15.IsWhole)
  (x0 : Vec F S1024x1024 .f32) (x1 : Vec F S1x8192 .f32) (x2 : Vec F S1x1x1024 .i32) (x3 : Vec F S1x1x1024 .f32)
  (x4 : Vec F S1x16 .i32) (x5 x6 : Vec F S1x1024 .f32) (xs0 : Vec F S1024x8192 .bf16) (xs3 : Vec F S2 .f32)
  (fh0 : HbBuf0 (F := F) c hbM0_0)

/-- The weights as the first point's transfers find them. -/
def wArr (fh0 : HbBuf0 (F := F) c hbM0_0) : Vec F S1024x8192 .f32 := hbM0_0.view.read (Elt F) fh0

/-- The eight row blocks the first point writes cover the weights scratch. -/
theorem HS_cover (y : S1024x8192.Idx) : ∃ pc ∈ kernelRun0_A.sl.HS0_8 c arg11 arg12 fh0, y ∈ pc.1.set :=
  View.cover_of_tiledL (kernelRun0_A.sl.HS0_8 c arg11 arg12 fh0) S128x8192.size (by sl_kernel_rfl) y

/-- A staging buffer read back whole holds what the last transfer brought. -/
theorem readCov_whole {S : Shape} {κ : Kind} {sp : Space} {e : EltTy} (v : View sig κ sp S e) {off : Fin S.rank → Nat}
    (h : off = fun _ => 0) (inb : ∀ a, off a + S.size a ≤ S.size a) (w : S.Idx → Elt F e) (L : List (View.Piece (Elt F) S e)) :
    v.readCov ((⟨Rect.whole S, w⟩ : View.Piece (Elt F) S e) :: L) (Rect.unit off S.size inb).toLoadRect = w := by
  subst h
  exact View.readCov_cons_toLoadRect v (Rect.whole S) w L

/-- The weights scratch after the first point: the weights, rounded to bf16. -/
theorem wb_A (y : S1024x8192.Idx) : View.canon (kernelRun0_A.sl.HS0_8 c arg11 arg12 fh0) y =
    truncf FTy.bf16 (wArr c fh0) bitsLt_bf16_f32 y := by
  refine View.canon_apply_of_pieces (Val := Elt F) (e := .bf16) (truncf FTy.bf16 (wArr c fh0) bitsLt_bf16_f32) _ ?_ y (HS_cover c arg11 arg12 fh0 y)
  unfold kernelRun0_A.sl.HS0_8
  simp only [List.forall_mem_cons]
  refine ⟨?_, ?_, ?_, ?_, ?_, ?_, ?_, ?_, fun _ h => absurd h List.not_mem_nil⟩
  · intro x
    unfold kernelRun0_A.sl.v443 kernelRun0_A.sl.dma22
    rw [readCov_whole _ hz2]
    unfold k0_pay13
    rw [shapeCast_self]
    rfl
  · intro x
    unfold kernelRun0_A.sl.v437 kernelRun0_A.sl.dma19
    rw [readCov_whole _ hz2]
    unfold k0_pay12
    rw [shapeCast_self]
    rfl
  · intro x
    unfold kernelRun0_A.sl.v430 kernelRun0_A.sl.dma16
    rw [readCov_whole _ hz2]
    unfold k0_pay11
    rw [shapeCast_self]
    rfl
  · intro x
    unfold kernelRun0_A.sl.v423 kernelRun0_A.sl.dma13
    rw [readCov_whole _ hz2]
    unfold k0_pay10
    rw [shapeCast_self]
    rfl
  · intro x
    unfold kernelRun0_A.sl.v416 kernelRun0_A.sl.dma10
    rw [readCov_whole _ hz2]
    unfold k0_pay9
    rw [shapeCast_self]
    rfl
  · intro x
    unfold kernelRun0_A.sl.r_2 kernelRun0_A.sl.v409 kernelRun0_A.sl.dma7
    rw [readCov_whole _ hz2]
    unfold k0_pay8 k0_pay7
    rw [shapeCast_self]
    rfl
  · intro x
    unfold kernelRun0_A.sl.v402 kernelRun0_A.sl.dma4_1
    rw [readCov_whole _ hz2]
    unfold k0_pay6
    rw [shapeCast_self]
    rfl
  · intro x
    unfold kernelRun0_A.sl.v395 kernelRun0_A.sl.dma4
    rw [readCov_whole _ hz2]
    unfold k0_pay5
    rw [shapeCast_self]
    rfl

/-- The scratch as a whole. -/
theorem wb_A' : View.canon (kernelRun0_A.sl.HS0_8 c arg11 arg12 fh0) = truncf FTy.bf16 (wArr c fh0) bitsLt_bf16_f32 :=
  funext fun y => wb_A c arg11 arg12 fh0 y

set_option maxRecDepth 10000 in
/-- The columns from 0 on, as the first point loads them, are those of the rounded weights. -/
theorem cols_A0 : kernelRun0_A.sl.v35 c arg10 arg11 arg12 fh0 = wcol0 (truncf FTy.bf16 (wArr c fh0) bitsLt_bf16_f32) := by
  unfold kernelRun0_A.sl.v35
  refine (View.readCov_eq_canon_ld arg10.view (kernelRun0_A.sl.HS0_8 c arg11 arg12 fh0) (Rect.unit ![0, 0] S1024x2048.size inb_S1024x8192_S1024x2048_0_0) (HS_cover c arg11 arg12 fh0)).trans ?_
  rw [wb_A' c arg11 arg12 fh0, wcol0]

set_option maxRecDepth 10000 in
/-- The columns from 2048 on, as the first point loads them, are those of the rounded weights. -/
theorem cols_A1 : kernelRun0_A.sl.v112 c arg10 arg11 arg12 fh0 = wcol1 (truncf FTy.bf16 (wArr c fh0) bitsLt_bf16_f32) := by
  unfold kernelRun0_A.sl.v112
  refine (View.readCov_eq_canon_ld arg10.view (kernelRun0_A.sl.HS0_8 c arg11 arg12 fh0) (Rect.unit ![0, 2048] S1024x2048.size inb_S1024x8192_S1024x2048_0_2048) (HS_cover c arg11 arg12 fh0)).trans ?_
  rw [wb_A' c arg11 arg12 fh0, wcol1]

set_option maxRecDepth 10000 in
/-- The columns from 4096 on, as the first point loads them, are those of the rounded weights. -/
theorem cols_A2 : kernelRun0_A.sl.v189 c arg10 arg11 arg12 fh0 = wcol2 (truncf FTy.bf16 (wArr c fh0) bitsLt_bf16_f32) := by
  unfold kernelRun0_A.sl.v189
  refine (View.readCov_eq_canon_ld arg10.view (kernelRun0_A.sl.HS0_8 c arg11 arg12 fh0) (Rect.unit ![0, 4096] S1024x2048.size inb_S1024x8192_S1024x2048_0_4096) (HS_cover c arg11 arg12 fh0)).trans ?_
  rw [wb_A' c arg11 arg12 fh0, wcol2]

set_option maxRecDepth 10000 in
/-- The columns from 6144 on, as the first point loads them, are those of the rounded weights. -/
theorem cols_A3 : kernelRun0_A.sl.v266 c arg10 arg11 arg12 fh0 = wcol3 (truncf FTy.bf16 (wArr c fh0) bitsLt_bf16_f32) := by
  unfold kernelRun0_A.sl.v266
  refine (View.readCov_eq_canon_ld arg10.view (kernelRun0_A.sl.HS0_8 c arg11 arg12 fh0) (Rect.unit ![0, 6144] S1024x2048.size inb_S1024x8192_S1024x2048_0_6144) (HS_cover c arg11 arg12 fh0)).trans ?_
  rw [wb_A' c arg11 arg12 fh0, wcol3]

/-- The two sums after the first point: one step from zero. -/
theorem acc_A (hc0 : cond0_0 i) (hc1 : ¬cond0_1 i) :
    sout0_A_3 c i arg1 harg1 arg3 harg3 arg4 harg4 arg5 harg5 arg6 harg6 arg7 harg7 arg8 harg8 arg9 harg9 arg10 harg10 arg11 harg11 arg12 harg12 arg15 harg15 hc0 hc1 x0 x1 x2 x3 x4 x5 x6 fh0 (ix1 (0 : Fin 2)) = lossStep i x0 x1 x2 x3 x4 x5 x6 (truncf FTy.bf16 (wArr c fh0) bitsLt_bf16_f32) (Scalar.ofBits .f32 0x00000000#32) ∧
    sout0_A_3 c i arg1 harg1 arg3 harg3 arg4 harg4 arg5 harg5 arg6 harg6 arg7 harg7 arg8 harg8 arg9 harg9 arg10 harg10 arg11 harg11 arg12 harg12 arg15 harg15 hc0 hc1 x0 x1 x2 x3 x4 x5 x6 fh0 (ix1 (1 : Fin 2)) = countStep (F := F) i x3 x4 (Scalar.ofBits .f32 0x00000000#32) := by
  unfold sout0_A_3
  rw [View.read_writes_eq_canon _ _ _ (scover0_A_3 c i arg1 harg1 arg3 harg3 arg4 harg4 arg5 harg5 arg6 harg6 arg7 harg7 arg8 harg8 arg9 harg9 arg10 harg10 arg11 harg11 arg12 harg12 arg15 harg15 hc0 hc1 x0 x1 x2 x3 x4 x5 x6 fh0)]
  unfold kernelRun0_A
  dsimp only
  constructor
  · refine (canon_cell0 _ _ _).trans ?_
    simp only [kernelRun0_A.sl.r_51, kernelRun0_A.sl.r_50, kernelRun0_A.sl.r_49, kernelRun0_A.sl.r_48, kernelRun0_A.sl.r_47, kernelRun0_A.sl.r_46, kernelRun0_A.sl.r_45, kernelRun0_A.sl.r_44, kernelRun0_A.sl.r_43, kernelRun0_A.sl.r_42, kernelRun0_A.sl.r_41, kernelRun0_A.sl.r_40, kernelRun0_A.sl.r_39, kernelRun0_A.sl.r_38, kernelRun0_A.sl.r_37, kernelRun0_A.sl.r_36, kernelRun0_A.sl.r_35, kernelRun0_A.sl.r_34, kernelRun0_A.sl.r_33, kernelRun0_A.sl.r_32, kernelRun0_A.sl.r_31, kernelRun0_A.sl.r_30, kernelRun0_A.sl.r_29, kernelRun0_A.sl.r_28, kernelRun0_A.sl.r_27, kernelRun0_A.sl.r_26, kernelRun0_A.sl.r_25, kernelRun0_A.sl.r_24, kernelRun0_A.sl.r_23, kernelRun0_A.sl.r_22, kernelRun0_A.sl.r_21, kernelRun0_A.sl.r_20, kernelRun0_A.sl.r_19, kernelRun0_A.sl.r_18, kernelRun0_A.sl.r_17, kernelRun0_A.sl.r_16, kernelRun0_A.sl.r_15, kernelRun0_A.sl.r_14, kernelRun0_A.sl.r_13, kernelRun0_A.sl.r_12, kernelRun0_A.sl.r_11, kernelRun0_A.sl.r_10, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.v32, kernelRun0_A.sl.cst_55, cols_A0, cols_A1, cols_A2, cols_A3]
    simp only [View.readAt_eq_ld, harg1.read_unread, harg3.read_unread, harg4.read_unread, harg5.read_unread, harg6.read_unread, harg7.read_unread, harg8.read_unread, harg10.read_unread, harg15.read_unread, View.ld_unit_zero (S := S1024x1024) hz2, View.ld_unit_zero (S := S1x1024) hz2, View.ld_unit_zero (S := S1x16) hz2, View.ld_unit_zero (S := S1x1x1024) hz3]
    rfl
  · refine (canon_cell1 _ _).trans ?_
    simp only [kernelRun0_A.sl.r_51, kernelRun0_A.sl.cst_55]
    simp only [View.readAt_eq_ld, harg1.read_unread, harg3.read_unread, harg4.read_unread, harg5.read_unread, harg6.read_unread, harg7.read_unread, harg8.read_unread, harg10.read_unread, harg15.read_unread, View.ld_unit_zero (S := S1024x1024) hz2, View.ld_unit_zero (S := S1x1024) hz2, View.ld_unit_zero (S := S1x16) hz2, View.ld_unit_zero (S := S1x1x1024) hz3]
    rfl

/-- The weights scratch after the first point. -/
theorem wb_first (hc0 : cond0_0 i) (hc1 : ¬cond0_1 i) :
    sout0_A_0 c i arg1 harg1 arg3 harg3 arg4 harg4 arg5 harg5 arg6 harg6 arg7 harg7 arg8 harg8 arg9 harg9 arg10 harg10 arg11 harg11 arg12 harg12 arg15 harg15 hc0 hc1 x0 x1 x2 x3 x4 x5 x6 fh0 = truncf FTy.bf16 (wArr c fh0) bitsLt_bf16_f32 := by
  unfold sout0_A_0
  rw [View.read_writes_eq_canon _ _ _ (scover0_A_0 c i arg1 harg1 arg3 harg3 arg4 harg4 arg5 harg5 arg6 harg6 arg7 harg7 arg8 harg8 arg9 harg9 arg10 harg10 arg11 harg11 arg12 harg12 arg15 harg15 hc0 hc1 x0 x1 x2 x3 x4 x5 x6 fh0)]
  exact wb_A' c arg11 arg12 fh0

/-- The two sums after a middle point: one step from what it met. -/
theorem acc_B (hc0 : ¬cond0_0 i) (hc1 : ¬cond0_1 i) :
    sout0_B_3 c i arg1 harg1 arg3 harg3 arg4 harg4 arg5 harg5 arg6 harg6 arg7 harg7 arg8 harg8 arg9 harg9 arg10 harg10 arg11 harg11 arg12 harg12 arg15 harg15 hc0 hc1 x0 x1 x2 x3 x4 x5 x6 xs0 xs3 fh0 (ix1 (0 : Fin 2)) = lossStep i x0 x1 x2 x3 x4 x5 x6 xs0 (xs3 (ix1 (0 : Fin 2))) ∧
    sout0_B_3 c i arg1 harg1 arg3 harg3 arg4 harg4 arg5 harg5 arg6 harg6 arg7 harg7 arg8 harg8 arg9 harg9 arg10 harg10 arg11 harg11 arg12 harg12 arg15 harg15 hc0 hc1 x0 x1 x2 x3 x4 x5 x6 xs0 xs3 fh0 (ix1 (1 : Fin 2)) = countStep (F := F) i x3 x4 (xs3 (ix1 (1 : Fin 2))) := by
  unfold sout0_B_3
  rw [View.read_writes_eq_canon _ _ _ (scover0_B_3 c i arg1 harg1 arg3 harg3 arg4 harg4 arg5 harg5 arg6 harg6 arg7 harg7 arg8 harg8 arg9 harg9 arg10 harg10 arg11 harg11 arg12 harg12 arg15 harg15 hc0 hc1 x0 x1 x2 x3 x4 x5 x6 xs0 xs3 fh0)]
  unfold kernelRun0_B
  dsimp only
  sl_unfold_words
  simp only [View.readAt_eq_ld, harg1.read_unread, harg3.read_unread, harg4.read_unread, harg5.read_unread, harg6.read_unread, harg7.read_unread, harg8.read_unread, harg10.read_unread, harg15.read_unread, View.ld_unit_zero (S := S1024x1024) hz2, View.ld_unit_zero (S := S1x1024) hz2, View.ld_unit_zero (S := S1x16) hz2, View.ld_unit_zero (S := S1x1x1024) hz3]
  constructor
  · refine (canon_cell0 _ _ _).trans ?_
    rw [ld_cell0]
    rfl
  · refine (canon_cell1 _ _).trans ?_
    rw [ld_cell1]
    rfl

/-- The two sums after the last point: one step from what it met. -/
theorem acc_C (hc0 : ¬cond0_0 i) (hc1 : cond0_1 i) :
    sout0_C_3 c i arg1 harg1 arg3 harg3 arg4 harg4 arg5 harg5 arg6 harg6 arg7 harg7 arg8 harg8 arg9 harg9 arg10 harg10 arg11 harg11 arg12 harg12 arg15 harg15 hc0 hc1 x0 x1 x2 x3 x4 x5 x6 xs0 xs3 fh0 (ix1 (0 : Fin 2)) = lossStep i x0 x1 x2 x3 x4 x5 x6 xs0 (xs3 (ix1 (0 : Fin 2))) ∧
    sout0_C_3 c i arg1 harg1 arg3 harg3 arg4 harg4 arg5 harg5 arg6 harg6 arg7 harg7 arg8 harg8 arg9 harg9 arg10 harg10 arg11 harg11 arg12 harg12 arg15 harg15 hc0 hc1 x0 x1 x2 x3 x4 x5 x6 xs0 xs3 fh0 (ix1 (1 : Fin 2)) = countStep (F := F) i x3 x4 (xs3 (ix1 (1 : Fin 2))) := by
  unfold sout0_C_3
  rw [View.read_writes_eq_canon _ _ _ (scover0_C_3 c i arg1 harg1 arg3 harg3 arg4 harg4 arg5 harg5 arg6 harg6 arg7 harg7 arg8 harg8 arg9 harg9 arg10 harg10 arg11 harg11 arg12 harg12 arg15 harg15 hc0 hc1 x0 x1 x2 x3 x4 x5 x6 xs0 xs3 fh0)]
  unfold kernelRun0_C
  dsimp only
  sl_unfold_words
  simp only [View.readAt_eq_ld, harg1.read_unread, harg3.read_unread, harg4.read_unread, harg5.read_unread, harg6.read_unread, harg7.read_unread, harg8.read_unread, harg10.read_unread, harg15.read_unread, View.ld_unit_zero (S := S1024x1024) hz2, View.ld_unit_zero (S := S1x1024) hz2, View.ld_unit_zero (S := S1x16) hz2, View.ld_unit_zero (S := S1x1x1024) hz3]
  constructor
  · refine (canon_cell0 _ _ _).trans ?_
    rw [ld_cell0]
    rfl
  · refine (canon_cell1 _ _).trans ?_
    rw [ld_cell1]
    rfl

/-- The block the last point writes: the quotient of the two sums it leaves. -/
theorem out_C (hc0 : ¬cond0_0 i) (hc1 : cond0_1 i) :
    out0_C_7 c i arg1 harg1 arg3 harg3 arg4 harg4 arg5 harg5 arg6 harg6 arg7 harg7 arg8 harg8 arg9 harg9 arg10 harg10 arg11 harg11 arg12 harg12 arg15 harg15 hc0 hc1 x0 x1 x2 x3 x4 x5 x6 xs0 xs3 fh0 = k0_pay4 (F := F) (lossStep i x0 x1 x2 x3 x4 x5 x6 xs0 (xs3 (ix1 (0 : Fin 2)))) (countStep (F := F) i x3 x4 (xs3 (ix1 (1 : Fin 2)))) := by
  unfold out0_C_7
  refine (View.read_writes_eq_canon _ _ _ (cover0_C_7 c i arg1 harg1 arg3 harg3 arg4 harg4 arg5 harg5 arg6 harg6 arg7 harg7 arg8 harg8 arg9 harg9 arg10 harg10 arg11 harg11 arg12 harg12 arg15 harg15 hc0 hc1 x0 x1 x2 x3 x4 x5 x6 xs0 xs3 fh0)).trans ?_
  unfold kernelRun0_C
  dsimp only
  refine (View.canon_unit_zero hz2 _ _).trans ?_
  unfold kernelRun0_C.sl.r_51 kernelRun0_C.sl.r_52
  sl_unfold_words
  simp only [View.readAt_eq_ld, harg1.read_unread, harg3.read_unread, harg4.read_unread, harg5.read_unread, harg6.read_unread, harg7.read_unread, harg8.read_unread, harg10.read_unread, harg15.read_unread, View.ld_unit_zero (S := S1024x1024) hz2, View.ld_unit_zero (S := S1x1024) hz2, View.ld_unit_zero (S := S1x16) hz2, View.ld_unit_zero (S := S1x1x1024) hz3]
  rw [ld_cell0, ld_cell1]
  rfl
end Cert.KernelIdeal.Value
end
-- ==== Proof.Entry.lean ====
module

public import proofs.«01_k».proof.Proof.Step
public import Idealize.ShloMosaic.Lib.Pointwise
public import Idealize.ShloMosaic.PureOps.Ideal

/-!
The kernel's grid point over the extended reals, read at an index: the row's normalised hidden state, its scores, the
negative log likelihood as the logarithm of a quotient of two sums over all 8192 columns, and the two running sums.
-/

@[expose] public section

set_option maxRecDepth 16384

noncomputable section

namespace Cert.KernelIdeal.Value

open Cert.KernelIdeal Cert.KernelIdeal.Gen Idealize.ShloMosaic Idealize.ShloMosaic.TcCoe Idealize.SL.Sem

/-- The mean of a row of 1024 numbers. -/
def rowMean (e : Fin 1024 → EReal) : EReal := Ideal.div (∑ x, e x) (Ideal.ofBits FTy.f32 0x44800000#32)
/-- The variance of a row. -/
def rowVar (e : Fin 1024 → EReal) : EReal :=
  Ideal.div (∑ x, (e x - rowMean e) * (e x - rowMean e)) (Ideal.ofBits FTy.f32 0x44800000#32)
/-- The row normalised, as the kernel does it: times the reciprocal square root. -/
def rowHat (e : Fin 1024 → EReal) (d : Fin 1024) : EReal :=
  (e d - rowMean e) * Ideal.rsqrt (rowVar e + Ideal.ofBits FTy.f32 0x3727C5AC#32)
/-- The score of a column, from a normalised row. -/
def scoreOf (h g be : Fin 1024 → EReal) (W : Fin 1024 → Fin 8192 → EReal) (b : Fin 8192 → EReal) (j : Fin 8192) : EReal :=
  ∑ x, (h x * g x + be x) * W x j + b j

/-- The sixteen entries of a block of 2048 that fall on one lane, added. -/
def fold16 (f : Fin 2048 → EReal) (l : Fin 128) : EReal :=
  f ⟨l.val, by omega⟩
    + f ⟨128 + l.val, by omega⟩
    + f ⟨256 + l.val, by omega⟩
    + f ⟨384 + l.val, by omega⟩
    + f ⟨512 + l.val, by omega⟩
    + f ⟨640 + l.val, by omega⟩
    + f ⟨768 + l.val, by omega⟩
    + f ⟨896 + l.val, by omega⟩
    + f ⟨1024 + l.val, by omega⟩
    + f ⟨1152 + l.val, by omega⟩
    + f ⟨1280 + l.val, by omega⟩
    + f ⟨1408 + l.val, by omega⟩
    + f ⟨1536 + l.val, by omega⟩
    + f ⟨1664 + l.val, by omega⟩
    + f ⟨1792 + l.val, by omega⟩
    + f ⟨1920 + l.val, by omega⟩

/-- The sixteen entries as a sum. -/
theorem fold16_eq (f : Fin 2048 → EReal) (l : Fin 128) : fold16 f l = ∑ g : Fin 16, f (finProdFinEquiv (g, l)) := by
  have hh : ∀ g : Fin 16, finProdFinEquiv (g, l) = (⟨128 * g.val + l.val, by omega⟩ : Fin 2048) := fun g => Fin.ext (by simp [finProdFinEquiv]; omega)
  simp only [hh]
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_eight]
  simp [fold16, Fin.ext_iff]

/-- Added over the lanes, they are the block's sum. -/
theorem sum_fold16 (f : Fin 2048 → EReal) : ∑ l, fold16 f l = ∑ j, f j := by
  simp only [fold16_eq]
  rw [Finset.sum_comm, ← Fintype.sum_prod_type' (fun (g : Fin 16) (l : Fin 128) => f (finProdFinEquiv (g, l))), Equiv.sum_comp (finProdFinEquiv (m := 16) (n := 128)) f]

/-- A sum over 8192 columns, block by block. -/
theorem sum_blocks (f : Fin 8192 → EReal) :
    ∑ j, f j = ∑ j : Fin 2048, f ⟨j.val, by omega⟩ + ∑ j : Fin 2048, f ⟨2048 + j.val, by omega⟩
      + ∑ j : Fin 2048, f ⟨4096 + j.val, by omega⟩ + ∑ j : Fin 2048, f ⟨6144 + j.val, by omega⟩ := by
  have h1 := Fin.sum_univ_add (a := 6144) (b := 2048) f
  have h2 := Fin.sum_univ_add (a := 4096) (b := 2048) (fun j => f (Fin.castAdd 2048 j))
  have h3 := Fin.sum_univ_add (a := 2048) (b := 2048) (fun j => f (Fin.castAdd 2048 (Fin.castAdd 2048 j)))
  refine h1.trans ?_
  refine congrArg₂ (· + ·) (h2.trans (congrArg₂ (· + ·) h3 rfl)) rfl

variable (x0 : Vec Ideal S1024x1024 .f32) (x1 : Vec Ideal S1x8192 .f32) (x2 : Vec Ideal S1x1x1024 .i32)
  (x5 x6 : Vec Ideal S1x1024 .f32) (wb : Vec Ideal S1024x8192 .bf16)

/-- The hidden state of a row. -/
theorem hidden_apply (r d : Fin 1024) :
    k0_pay14 x0 x5 x6 (ix2 r d) = rowHat (fun x => x0 (ix2 r x)) d * x5 (ix2 0 d) + x6 (ix2 0 d) := by
  pointwise [k0_pay14, rowHat, rowVar, rowMean]

/-- The exponential of a column's score. -/
def expAt (r : Fin 1024) (j : Fin 8192) : EReal :=
  Ideal.exp (scoreOf (rowHat fun x => x0 (ix2 r x)) (fun x => x5 (ix2 0 x)) (fun x => x6 (ix2 0 x)) (fun x j => wb (ix2 x j)) (fun j => x1 (ix2 0 j)) j)

/-- The exponential where the column is the label, and zero elsewhere. -/
def pickAt (r : Fin 1024) (j : Fin 8192) : EReal :=
  if x2 (ix3 0 0 r) = BitVec.ofNat 32 j.val then expAt x0 x1 x5 x6 wb r j else 0

/-- A block's column test is the test on the whole column number. -/
theorem select_label (w : BitVec 32) (o n : Nat) (a : EReal) :
    Scalar.select (IntOp.cmpi CmpIPredicate.eq (BitVec.ofNat 32 n) (IntOp.subi w (BitVec.ofNat 32 o))) a 0
      = if w = BitVec.ofNat 32 (o + n) then a else 0 := by
  have h : (BitVec.ofNat 32 n = w - BitVec.ofNat 32 o) ↔ w = BitVec.ofNat 32 (o + n) := by
    rw [BitVec.ofNat_add]
    constructor <;> intro h <;> bv_omega
  simp only [Scalar.select, IntOp.cmpi, IntOp.subi]
  by_cases hw : w = BitVec.ofNat 32 (o + n)
  · rw [if_pos hw]; simp [h.mpr hw]
  · rw [if_neg hw];
    have h' : ¬BitVec.ofNat 32 n = w - BitVec.ofNat 32 o := mt h.mp hw
    have h2 : (BitVec.ofNat 32 n == w - BitVec.ofNat 32 o) = false := beq_eq_false_iff_ne.mpr h'
    show (if BitVec.ofBool (BitVec.ofNat 32 n == w - BitVec.ofNat 32 o) = 1#1 then a else 0) = 0
    rw [h2]; rfl

/-- The first block's exponentials. -/
theorem exp0_apply (r : Fin 1024) (j : Fin 2048) : k0_pay19 (k0_pay18 x0 x5 x6 (wcol0 wb)) (bcol0 x1) (ix2 r j) = expAt x0 x1 x5 x6 wb r ⟨j.val, by omega⟩ := by
  pointwise [k0_pay19, k0_pay18, wcol0, bcol0, hidden_apply, expAt, scoreOf]

/-- The first block's exponentials where the column is the label. -/
theorem pick0_apply (r : Fin 1024) (j : Fin 2048) :
    k0_pay20 (k0_pay15 x2) colIota (k0_pay18 x0 x5 x6 (wcol0 wb)) (bcol0 x1) (ix2 r j) = pickAt x0 x1 x2 x5 x6 wb r ⟨j.val, by omega⟩ := by
  pointwise [k0_pay20, k0_pay15, colIota]
  rw [exp0_apply]
  exact (select_label _ 0 _ _).trans (by simp only [Nat.zero_add]; rfl)

/-- The second block's exponentials. -/
theorem exp1_apply (r : Fin 1024) (j : Fin 2048) : k0_pay36 (k0_pay14 x0 x5 x6) (wcol1 wb) (bcol1 x1) (ix2 r j) = expAt x0 x1 x5 x6 wb r ⟨2048 + j.val, by omega⟩ := by
  pointwise [k0_pay36, wcol1, bcol1, hidden_apply, expAt, scoreOf]

/-- The second block's exponentials where the column is the label. -/
theorem pick1_apply (r : Fin 1024) (j : Fin 2048) :
    k0_pay37 (k0_pay14 x0 x5 x6) (k0_pay15 x2) colIota (wcol1 wb) (bcol1 x1) (ix2 r j) = pickAt x0 x1 x2 x5 x6 wb r ⟨2048 + j.val, by omega⟩ := by
  pointwise [k0_pay37, k0_pay15, colIota]
  rw [exp1_apply]
  exact (select_label _ 2048 _ _).trans rfl

/-- The third block's exponentials. -/
theorem exp2_apply (r : Fin 1024) (j : Fin 2048) : exps2 x0 x1 x5 x6 wb (ix2 r j) = expAt x0 x1 x5 x6 wb r ⟨4096 + j.val, by omega⟩ := by
  pointwise [exps2, k0_pay51, wcol2, bcol2, hidden_apply, expAt, scoreOf]

/-- The third block's exponentials where the column is the label. -/
theorem pick2_apply (r : Fin 1024) (j : Fin 2048) :
    k0_pay53 (exps2 x0 x1 x5 x6 wb) (k0_pay52 (k0_pay15 x2) colIota) (ix2 r j) = pickAt x0 x1 x2 x5 x6 wb r ⟨4096 + j.val, by omega⟩ := by
  pointwise [k0_pay53, k0_pay52, k0_pay15, colIota]
  rw [exp2_apply]
  exact (select_label _ 4096 _ _).trans rfl

/-- The fourth block's exponentials. -/
theorem exp3_apply (r : Fin 1024) (j : Fin 2048) : k0_pay63 (k0_pay14 x0 x5 x6) (wcol3 wb) (bcol3 x1) (ix2 r j) = expAt x0 x1 x5 x6 wb r ⟨6144 + j.val, by omega⟩ := by
  pointwise [k0_pay63, wcol3, bcol3, hidden_apply, expAt, scoreOf]

/-- The fourth block's exponentials where the column is the label. -/
theorem pick3_apply (r : Fin 1024) (j : Fin 2048) :
    k0_pay64 (k0_pay14 x0 x5 x6) (k0_pay15 x2) colIota (wcol3 wb) (bcol3 x1) (ix2 r j) = pickAt x0 x1 x2 x5 x6 wb r ⟨6144 + j.val, by omega⟩ := by
  pointwise [k0_pay64, k0_pay15, colIota]
  rw [exp3_apply]
  exact (select_label _ 6144 _ _).trans rfl

/-- The first block's lane sums of the exponentials. -/
theorem esum0_apply (r : Fin 1024) (l : Fin 128) :
    esum0 x0 x1 x5 x6 wb (ix2 r l) = fold16 (fun j => expAt x0 x1 x5 x6 wb r ⟨j.val, by omega⟩) l := by
  have h : (fun j : Fin 2048 => expAt x0 x1 x5 x6 wb r ⟨j.val, by omega⟩) = fun j => (k0_pay19 (k0_pay18 x0 x5 x6 (wcol0 wb)) (bcol0 x1)) (ix2 r j) :=
    funext fun j => (exp0_apply x0 x1 x5 x6 wb r j).symm
  rw [h]
  pointwise [fold16, esum0, k0_pay21, k0_pay16, k0_pay19]
  ac_rfl

/-- The first block's lane sums of the label's exponential. -/
theorem qsum0_apply (r : Fin 1024) (l : Fin 128) :
    qsum0 x0 x1 x2 x5 x6 wb (ix2 r l) = fold16 (fun j => pickAt x0 x1 x2 x5 x6 wb r ⟨j.val, by omega⟩) l := by
  have h : (fun j : Fin 2048 => pickAt x0 x1 x2 x5 x6 wb r ⟨j.val, by omega⟩) = fun j => (k0_pay20 (k0_pay15 x2) colIota (k0_pay18 x0 x5 x6 (wcol0 wb)) (bcol0 x1)) (ix2 r j) :=
    funext fun j => (pick0_apply x0 x1 x2 x5 x6 wb r j).symm
  rw [h]
  unfold qsum0 k0_pay22 k0_pay23 k0_pay24 k0_pay25 k0_pay26 k0_pay27 k0_pay28 k0_pay29 k0_pay30 k0_pay31 k0_pay32 k0_pay33 k0_pay34
  dsimp only
  generalize k0_pay20 (k0_pay15 x2) colIota (k0_pay18 x0 x5 x6 (wcol0 wb)) (bcol0 x1) = v
  pointwise [fold16, k0_pay35, k0_pay17]
  ac_rfl

/-- The second block's lane sums of the exponentials, on top of the first's. -/
theorem esum1_apply (r : Fin 1024) (l : Fin 128) :
    esum1 x0 x1 x5 x6 wb (ix2 r l) = esum0 x0 x1 x5 x6 wb (ix2 r l) + fold16 (fun j => expAt x0 x1 x5 x6 wb r ⟨2048 + j.val, by omega⟩) l := by
  have h : (fun j : Fin 2048 => expAt x0 x1 x5 x6 wb r ⟨2048 + j.val, by omega⟩) = fun j => (k0_pay36 (k0_pay14 x0 x5 x6) (wcol1 wb) (bcol1 x1)) (ix2 r j) :=
    funext fun j => (exp1_apply x0 x1 x5 x6 wb r j).symm
  rw [h]
  pointwise [fold16, esum1, k0_pay38, k0_pay39, k0_pay40, k0_pay41, k0_pay42, k0_pay43, k0_pay44, k0_pay45, k0_pay46, k0_pay47, k0_pay48, k0_pay49]
  ac_rfl

/-- The second block's lane sums of the label's exponential, on top of the first's. -/
theorem qsum1_apply (r : Fin 1024) (l : Fin 128) :
    qsum1 x0 x1 x2 x5 x6 wb (ix2 r l) = qsum0 x0 x1 x2 x5 x6 wb (ix2 r l) + fold16 (fun j => pickAt x0 x1 x2 x5 x6 wb r ⟨2048 + j.val, by omega⟩) l := by
  have h : (fun j : Fin 2048 => pickAt x0 x1 x2 x5 x6 wb r ⟨2048 + j.val, by omega⟩) = fun j => (k0_pay37 (k0_pay14 x0 x5 x6) (k0_pay15 x2) colIota (wcol1 wb) (bcol1 x1)) (ix2 r j) :=
    funext fun j => (pick1_apply x0 x1 x2 x5 x6 wb r j).symm
  rw [h]
  unfold qsum1
  generalize k0_pay37 (k0_pay14 x0 x5 x6) (k0_pay15 x2) colIota (wcol1 wb) (bcol1 x1) = v
  pointwise [fold16, k0_pay50]
  ac_rfl

/-- The third block's lane sums of the exponentials, on top of the second's. -/
theorem esum2_apply (r : Fin 1024) (l : Fin 128) :
    esum2 x0 x1 x5 x6 wb (ix2 r l) = esum1 x0 x1 x5 x6 wb (ix2 r l) + fold16 (fun j => expAt x0 x1 x5 x6 wb r ⟨4096 + j.val, by omega⟩) l := by
  have h : (fun j : Fin 2048 => expAt x0 x1 x5 x6 wb r ⟨4096 + j.val, by omega⟩) = fun j => (exps2 x0 x1 x5 x6 wb) (ix2 r j) :=
    funext fun j => (exp2_apply x0 x1 x5 x6 wb r j).symm
  rw [h]
  pointwise [fold16, esum2, k0_pay54]
  ac_rfl

/-- The third block's lane sums of the label's exponential, on top of the second's. -/
theorem qsum2_apply (r : Fin 1024) (l : Fin 128) :
    qsum2 x0 x1 x2 x5 x6 wb (ix2 r l) = qsum1 x0 x1 x2 x5 x6 wb (ix2 r l) + fold16 (fun j => pickAt x0 x1 x2 x5 x6 wb r ⟨4096 + j.val, by omega⟩) l := by
  have h : (fun j : Fin 2048 => pickAt x0 x1 x2 x5 x6 wb r ⟨4096 + j.val, by omega⟩) = fun j => (k0_pay53 (exps2 x0 x1 x5 x6 wb) (k0_pay52 (k0_pay15 x2) colIota)) (ix2 r j) :=
    funext fun j => (pick2_apply x0 x1 x2 x5 x6 wb r j).symm
  rw [h]
  unfold qsum2 k0_pay55 k0_pay56 k0_pay57 k0_pay58 k0_pay59 k0_pay60 k0_pay61
  dsimp only
  generalize k0_pay53 (exps2 x0 x1 x5 x6 wb) (k0_pay52 (k0_pay15 x2) colIota) = v
  pointwise [fold16, k0_pay62]
  ac_rfl

/-- The fourth block's lane sums of the exponentials, on top of the third's. -/
theorem esum3_apply (r : Fin 1024) (l : Fin 128) :
    esum3 x0 x1 x5 x6 wb (ix2 r l) = esum2 x0 x1 x5 x6 wb (ix2 r l) + fold16 (fun j => expAt x0 x1 x5 x6 wb r ⟨6144 + j.val, by omega⟩) l := by
  have h : (fun j : Fin 2048 => expAt x0 x1 x5 x6 wb r ⟨6144 + j.val, by omega⟩) = fun j => k0_pay63 (k0_pay14 x0 x5 x6) (wcol3 wb) (bcol3 x1) (ix2 r j) :=
    funext fun j => (exp3_apply x0 x1 x5 x6 wb r j).symm
  rw [h]
  unfold esum3 k0_pay65
  generalize k0_pay63 (k0_pay14 x0 x5 x6) (wcol3 wb) (bcol3 x1) = v
  pointwise [fold16]
  ac_rfl

/-- The negative log likelihood the kernel computes for a row: the logarithm of the quotient of the two sums. -/
theorem nllCol_apply (r : Fin 1024) :
    nllCol x0 x1 x2 x5 x6 wb (ix2 r 0)
      = Ideal.log (Ideal.div (∑ j, expAt x0 x1 x5 x6 wb r j) (∑ j, pickAt x0 x1 x2 x5 x6 wb r j)) := by
  have he : ∑ j, expAt x0 x1 x5 x6 wb r j = ∑ l, esum3 x0 x1 x5 x6 wb (ix2 r l) := by
    simp only [esum3_apply, esum2_apply, esum1_apply, esum0_apply, Finset.sum_add_distrib, sum_fold16]
    exact sum_blocks _
  have hq : ∑ j, pickAt x0 x1 x2 x5 x6 wb r j
      = ∑ l, (qsum2 x0 x1 x2 x5 x6 wb (ix2 r l) + fold16 (fun j => pickAt x0 x1 x2 x5 x6 wb r ⟨6144 + j.val, by omega⟩) l) := by
    simp only [qsum2_apply, qsum1_apply, qsum0_apply, Finset.sum_add_distrib, sum_fold16]
    exact sum_blocks _
  rw [he, hq]
  have h : (fun j : Fin 2048 => pickAt x0 x1 x2 x5 x6 wb r ⟨6144 + j.val, by omega⟩) = fun j => k0_pay64 (k0_pay14 x0 x5 x6) (k0_pay15 x2) colIota (wcol3 wb) (bcol3 x1) (ix2 r j) :=
    funext fun j => (pick3_apply x0 x1 x2 x5 x6 wb r j).symm
  rw [h]
  unfold nllCol k0_pay66
  dsimp only
  generalize k0_pay64 (k0_pay14 x0 x5 x6) (k0_pay15 x2) colIota (wcol3 wb) (bcol3 x1) = v
  generalize qsum2 x0 x1 x2 x5 x6 wb = q
  generalize esum3 x0 x1 x5 x6 wb = e
  pointwise [k0_pay67, fold16]
  refine congrArg Ideal.log (congrArg (Ideal.div _) (Finset.sum_congr rfl fun l _ => ?_))
  ac_rfl

variable (i : grid0.Coords) (x3 : Vec Ideal S1x1x1024 .f32) (x4 : Vec Ideal S1x16 .i32)

/-- The row's next position is one of the sixteen boundaries. -/
def HitAt (r : Fin 1024) : Prop := ∃ k : Fin 16, BitVec.ofNat 32 ((i 0).val * 1024 + r.val + 1) = x4 (ix2 0 k)

open Classical in
/-- The weight of a row: its mask, and zero where the next position is a boundary. -/
def validAt (r : Fin 1024) : EReal := if HitAt i x4 r then 0 else x3 (ix3 0 0 r)

/-- The maximum of the sixteen hits is positive exactly where there is one. -/
theorem hit_iff (r : Fin 1024) :
    (0 < Finset.fold max (Ideal.ofBits FTy.f32 4286578688#32)
      (fun k : Fin 16 => Scalar.select (IntOp.cmpi CmpIPredicate.eq
        (IntOp.addi (IntOp.addi (Scalar.muli (BitVec.ofNat 32 (i 0).val) 1024#32) (BitVec.ofNat 32 r.val)) 1#32) (x4 (ix2 0 k))) (1 : EReal) 0) Finset.univ)
      ↔ HitAt i x4 r := by
  have hb : Ideal.ofBits FTy.f32 4286578688#32 = ⊥ := by simp [Ideal.ofBits, Ideal.ieee]
  have hw : IntOp.addi (IntOp.addi (Scalar.muli (BitVec.ofNat 32 (i 0).val) 1024#32) (BitVec.ofNat 32 r.val)) 1#32
      = BitVec.ofNat 32 ((i 0).val * 1024 + r.val + 1) := by
    show BitVec.ofNat 32 (i 0).val * 1024#32 + BitVec.ofNat 32 r.val + 1#32 = _
    rw [BitVec.ofNat_add, BitVec.ofNat_add, BitVec.ofNat_mul]
  rw [hw, Finset.lt_fold_max, hb]
  constructor
  · rintro (h | ⟨k, -, h⟩)
    · exact absurd h (by simp)
    · refine ⟨k, ?_⟩
      by_contra hne
      rw [show IntOp.cmpi CmpIPredicate.eq (BitVec.ofNat 32 ((i 0).val * 1024 + r.val + 1)) (x4 (ix2 0 k)) = 0#1 from by
        show BitVec.ofBool (_ == _) = _
        rw [beq_eq_false_iff_ne.mpr hne]; rfl] at h
      exact absurd h (lt_irrefl _)
  · rintro ⟨k, h⟩
    refine Or.inr ⟨k, Finset.mem_univ _, ?_⟩
    rw [h, show IntOp.cmpi CmpIPredicate.eq (x4 (ix2 0 k)) (x4 (ix2 0 k)) = 1#1 from by
        show BitVec.ofBool (_ == _) = _
        rw [beq_self_eq_true]; rfl]
    show (0 : EReal) < 1
    exact zero_lt_one

/-- The weight, as the kernel selects it. -/
theorem weight_eq (r : Fin 1024) :
    (if 0 < Finset.fold max (Ideal.ofBits FTy.f32 4286578688#32)
      (fun k : Fin 16 => Scalar.select (IntOp.cmpi CmpIPredicate.eq
        (IntOp.addi (IntOp.addi (Scalar.muli (BitVec.ofNat 32 (i 0).val) 1024#32) (BitVec.ofNat 32 r.val)) 1#32) (x4 (ix2 0 k))) (1 : EReal) 0) Finset.univ
      then 0 else x3 (ix3 0 0 r)) = validAt i x3 x4 r := by
  unfold validAt
  by_cases h : HitAt i x4 r
  · exact (if_pos ((hit_iff i x4 r).mpr h)).trans (if_pos h).symm
  · exact (if_neg (mt (hit_iff i x4 r).mp h)).trans (if_neg h).symm

/-- The count after a point: what it met, and the weights of its rows. -/
theorem countStep_apply (old : EReal) : countStep (F := Ideal) i x3 x4 old = old + ∑ r, validAt i x3 x4 r := by
  unfold countStep hits
  pointwise [k0_pay3, k0_pay1, k0_pay68]
  simp only [Finset.univ_unique, Finset.sum_singleton]
  refine congrArg (old + ·) (Finset.sum_congr rfl fun r _ => ?_)
  exact weight_eq i x3 x4 r

/-- The loss sum after a point: what it met, and its rows' losses, weighted. -/
theorem lossStep_apply (old : EReal) :
    lossStep (F := Ideal) i x0 x1 x2 x3 x4 x5 x6 wb old = old + ∑ r, validAt i x3 x4 r * nllCol x0 x1 x2 x5 x6 wb (ix2 r 0) := by
  unfold lossStep hits
  generalize nllCol x0 x1 x2 x5 x6 wb = n
  pointwise [k0_pay2, k0_pay1, k0_pay68]
  simp only [Finset.univ_unique, Finset.sum_singleton]
  refine congrArg (old + ·) (Finset.sum_congr rfl fun r _ => congrArg (· * n (ix2 r 0)) ?_)
  exact weight_eq i x3 x4 r

/-- The block the last point writes: the quotient of the loss and the count, or of the loss and one. -/
theorem quot_apply (a b : EReal) (j : S1x1.Idx) : k0_pay4 (F := Ideal) a b j = Ideal.div a (max b 1) := by
  pointwise [k0_pay4]

end Cert.KernelIdeal.Value
end
-- ==== Proof.KValue.lean ====
module

public import proofs.«01_k».proof.Proof.Points
public import proofs.«01_k».proof.Proof.Entry

/-!
The kernel's run over the extended reals: after point `n` the two sums hold the losses and the weights of the blocks up
to `n`, and the result is the quotient of the two after the last point.
-/

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The weights as the region finds them, rounded. -/
def wOf : Vec Ideal S1024x8192 .bf16 := truncf (F := Ideal) FTy.bf16 (wArr (F := Ideal) c (V m c main_arg6)) bitsLt_bf16_f32

/-- The losses of the rows of block `t`, weighted and added. -/
def blockLoss (t : Fin cfg0.N) : EReal :=
  ∑ r, validAt (grid0.coords t) (iblk m c 3 t) (iblk m c 4 t) r
    * nllCol (iblk m c 0 t) (iblk m c 1 t) (iblk m c 2 t) (iblk m c 5 t) (iblk m c 6 t) (wOf m c) (ix2 r 0)

/-- The weights of the rows of block `t`, added. -/
def blockCount (t : Fin cfg0.N) : EReal := ∑ r, validAt (grid0.coords t) (iblk m c 3 t) (iblk m c 4 t) r

/-- The loss sum after point `n`. -/
def lossAcc : (n : ℕ) → n < cfg0.N → EReal
  | 0, h => 0 + blockLoss m c ⟨0, h⟩
  | n + 1, h => lossAcc n (Nat.lt_of_succ_lt h) + blockLoss m c ⟨n + 1, h⟩

/-- The count after point `n`. -/
def countAcc : (n : ℕ) → n < cfg0.N → EReal
  | 0, h => 0 + blockCount m c ⟨0, h⟩
  | n + 1, h => countAcc n (Nat.lt_of_succ_lt h) + blockCount m c ⟨n + 1, h⟩

/-- The zero the first point starts from. -/
theorem zero_start : (Scalar.ofBits .f32 0x00000000#32 : Ideal .f32) = 0 := by
  show Ideal.ofBits .f32 0x00000000#32 = 0
  simp [Ideal.ofBits, Ideal.ieee]

/-- What the first point leaves. -/
theorem step_A (t : Fin cfg0.N) (h0 : t.val % 8 = 0) (h1 : ¬t.val % 8 = 7) : (outsAt0 m c t.val t.isLt).2.1 = wOf m c
    ∧ (outsAt0 m c t.val t.isLt).2.2 (ix1 (0 : Fin 2)) = 0 + blockLoss m c t
    ∧ (outsAt0 m c t.val t.isLt).2.2 (ix1 (1 : Fin 2)) = 0 + blockCount m c t := by
  rw [outsAt0_A m c t h0 h1]
  dsimp only
  rw [(acc_A ..).1, (acc_A ..).2, wb_first, lossStep_apply, countStep_apply, zero_start]
  exact ⟨rfl, rfl, rfl⟩

/-- What a later point leaves, of what it met. -/
theorem step_BC (t : Fin cfg0.N) (h0 : ¬t.val % 8 = 0) (n : ℕ) (hn : n < cfg0.N) (e : t.val - 1 = n) (hw : (outsAt0 m c n hn).2.1 = wOf m c) :
    (outsAt0 m c t.val t.isLt).2.1 = wOf m c
    ∧ (outsAt0 m c t.val t.isLt).2.2 (ix1 (0 : Fin 2)) = (outsAt0 m c n hn).2.2 (ix1 (0 : Fin 2)) + blockLoss m c t
    ∧ (outsAt0 m c t.val t.isLt).2.2 (ix1 (1 : Fin 2)) = (outsAt0 m c n hn).2.2 (ix1 (1 : Fin 2)) + blockCount m c t := by
  subst e
  by_cases h1 : t.val % 8 = 7
  · rw [outsAt0_C m c t h0 h1]
    dsimp only
    rw [(acc_C ..).1, (acc_C ..).2, lossStep_apply, countStep_apply, hw]
    exact ⟨rfl, rfl, rfl⟩
  · rw [outsAt0_B m c t h0 h1]
    dsimp only
    rw [(acc_B ..).1, (acc_B ..).2, lossStep_apply, countStep_apply, hw]
    exact ⟨rfl, rfl, rfl⟩

/-- What the last point writes, of what it met. -/
theorem step_out (t : Fin cfg0.N) (h0 : ¬t.val % 8 = 0) (h1 : t.val % 8 = 7) (n : ℕ) (hn : n < cfg0.N) (e : t.val - 1 = n)
    (hw : (outsAt0 m c n hn).2.1 = wOf m c) (j : S1x1.Idx) :
    (outsAt0 m c t.val t.isLt).1 j = Ideal.div ((outsAt0 m c n hn).2.2 (ix1 (0 : Fin 2)) + blockLoss m c t)
      (max ((outsAt0 m c n hn).2.2 (ix1 (1 : Fin 2)) + blockCount m c t) 1) := by
  subst e
  rw [outsAt0_C m c t h0 h1]
  dsimp only
  rw [out_C, quot_apply, lossStep_apply, countStep_apply, hw]
  rfl

/-- What the scratch holds after point `n`: the rounded weights and the two sums. -/
theorem scratch_eq : ∀ (n : ℕ) (h : n < cfg0.N), (outsAt0 m c n h).2.1 = wOf m c
    ∧ (outsAt0 m c n h).2.2 (ix1 (0 : Fin 2)) = lossAcc m c n h ∧ (outsAt0 m c n h).2.2 (ix1 (1 : Fin 2)) = countAcc m c n h
  | 0, h => step_A m c ⟨0, h⟩ rfl (by show ¬(0 % 8 = 7); decide)
  | n + 1, h => by
    have hN : cfg0.N = 8 := N_0
    obtain ⟨i0, i1, i2⟩ := scratch_eq n (Nat.lt_of_succ_lt h)
    have h0 : ¬(⟨n + 1, h⟩ : Fin cfg0.N).val % 8 = 0 := by dsimp only; omega
    have hs := step_BC m c ⟨n + 1, h⟩ h0 n (Nat.lt_of_succ_lt h) rfl i0
    rw [i1, i2] at hs
    exact hs

/-- The last point's number is below the number of points. -/
theorem last_lt : 7 < cfg0.N := by rw [show cfg0.N = 8 from N_0]; decide

/-- The kernel's one number: the loss sum over the count, or over one. -/
def quotient : EReal := Ideal.div (lossAcc m c 7 last_lt) (max (countAcc m c 7 last_lt) 1)

/-- The block the last point writes is that number. -/
theorem out_eq (j : S1x1.Idx) : (outsAt0 m c 7 last_lt).1 j = quotient m c := by
  obtain ⟨i0, i1, i2⟩ := scratch_eq m c 6 (Nat.lt_of_succ_lt last_lt)
  have hs := step_out m c ⟨7, last_lt⟩ (by show ¬(7 % 8 = 0); decide) rfl 6 (Nat.lt_of_succ_lt last_lt) rfl i0 j
  rw [i1, i2] at hs
  exact hs

/-- The result array of the region. -/
abbrev result : Buf (Elt Ideal) ((c : Thread nD τ).loc main_v17) := fun _ => quotient m c

/-- The one write-back, at the last point, writes the whole array. -/
theorem flushed_eq (t : Fin cfg0.N) (hf : (cfg0.win 7).flush t = true) :
    (dats m 0 c).flushed 7 t = ((cfg0.win 7).blk t).view.read (Elt Ideal) (result m c) := by
  have hN : cfg0.N = 8 := N_0
  have h7 : t.val = 7 := by have := (flush0_7 t).mp hf; have := t.isLt; omega
  obtain rfl : t = ⟨7, last_lt⟩ := Fin.ext h7
  show (cfg0.win 7).cut (grid0.coords ⟨7, last_lt⟩) ((dats m 0 c).after 7 ⟨7, last_lt⟩) = _
  rw [after0_7, show (outsAt0 m c 7 last_lt).1 = fun _ => quotient m c from funext fun j => out_eq m c j]
  rfl

/-- So the array ends holding it. -/
theorem final_eq : (dats m 0 c).arrAt 7 cfg0.N = result m c :=
  (dats m 0 c).arrAt_eq_of_cover 7 (result m c) (flushed_eq m c) fun i =>
    ⟨t0_7, (flush0_7 t0_7).mpr rfl, by
      show i ∈ ((View.whole main_v17).slice (win0_7.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_7.index t0_7 0 * win0_7.size 0 ≤ (i 0 : Nat) ∧ (i 0 : Nat) < win0_7.index t0_7 0 * win0_7.size 0 + win0_7.xsize (grid0.coords t0_7) 0
                  rw [show win0_7.index t0_7 0 * win0_7.size 0 = 0 from by decide +kernel, show win0_7.xsize (grid0.coords t0_7) 0 = 1 from by decide +kernel]; omega
      | ⟨1, _⟩ => show win0_7.index t0_7 1 * win0_7.size 1 ≤ (i 1 : Nat) ∧ (i 1 : Nat) < win0_7.index t0_7 1 * win0_7.size 1 + win0_7.xsize (grid0.coords t0_7) 1
                  rw [show win0_7.index t0_7 1 * win0_7.size 1 = 0 from by decide +kernel, show win0_7.xsize (grid0.coords t0_7) 1 = 1 from by decide +kernel]; omega⟩

/-- What the line after the region leaves in the program's result. -/
theorem tail_eq : Pipeline.afterTail₀ cfgs (dats m) 0 (V0 m) [hostOps1] c main_v18 = fun _ => quotient m c := by
  have h : Pipeline.withArrays spec0 c (V0 m c) (fun w => (dats m 0 c).arrAt w cfg0.N) (Proc.devRef .tc main_v17) = result m c :=
    (Pipeline.withArrays_arr spec0 (by decide) c (V0 m c) (fun w => (dats m 0 c).arrAt w cfg0.N) 7).trans (final_eq m c)
  unfold Pipeline.afterTail₀
  simp only [hostOps1, List.flatten_cons, List.flatten_nil, List.append_nil]
  after_results
  funext j
  have h' : Pipeline.withArrays (cfgs 0).spec c (V0 m c) (fun w => (dats m 0 c).arrAt w (cfgs 0).N) (Proc.tc.devRef main_v17) = result m c := h
  rw [h']
  rfl

end Cert.KernelIdeal.Value
end
-- ==== Proof.HostK.lean ====
module

public import proofs.«01_k».proof.Proof.KValue
public import Idealize.ShloMosaic.Lib.Routing.OpsPair
public import Idealize.ShloMosaic.Lib.Routing.Ops

/-!
What the blocks that the region reads hold, by their entries: the rows of the embeddings, the next tokens as labels, the
shifted mask, the segment starts padded with zeros, and the rows of gamma, beta and the bias.
-/

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The label of row `j`: the next row's token, and zero for the last row. -/
def labelOf (tok : Vec Ideal S8192 .i32) (j : Fin 8192) : BitVec 32 := if h : j.val + 1 < 8192 then tok (ix1 ⟨j.val + 1, h⟩) else 0#32

/-- The mask bit of row `j`: the next row's, and false for the last row. -/
def maskOf (mk : Vec Ideal S8192 .i1) (j : Fin 8192) : BitVec 1 := if h : j.val + 1 < 8192 then mk (ix1 ⟨j.val + 1, h⟩) else 0#1

/-- The nine segment starts, padded with zeros to sixteen. -/
def cuOf (cu : Vec Ideal S9 .i32) (k : Fin 16) : BitVec 32 := if h : k.val < 9 then cu (ix1 ⟨k.val, h⟩) else 0#32

/-- Row `r` of block `t` as a row of the whole array. -/
def rowOf (t : Fin 8) (r : Fin 1024) : Fin 8192 := ⟨t.val * 1024 + r.val, by omega⟩

/-- The labels as the region finds them. -/
theorem labels_apply (t : Fin 8) (r : Fin 1024) : V m c main_v6 (ix3 t 0 r) = labelOf (m ((c : Thread nD τ).loc main_arg1)) (rowOf t r) := by
  unfold V V0
  simp only [hostOps0, List.flatten_cons, List.flatten_nil, List.append_nil]
  after_results
  pointwise
  unfold labelOf rowOf
  by_cases h : t.val * 1024 + r.val < 8191
  · rw [dif_pos h, dif_pos (by dsimp only; omega)]
    simp only [Nat.add_comm 1]
  · rw [dif_neg h, dif_neg (by dsimp only; omega)]

/-- The mask as the region finds it. -/
theorem mask_apply (t : Fin 8) (r : Fin 1024) :
    V m c main_v8 (ix3 t 0 r) = FloatOps.uitofp (F := Ideal) .f32 (maskOf (m ((c : Thread nD τ).loc main_arg2)) (rowOf t r)) := by
  unfold V V0
  simp only [hostOps0, List.flatten_cons, List.flatten_nil, List.append_nil]
  after_results
  pointwise
  unfold maskOf rowOf
  by_cases h : t.val * 1024 + r.val < 8191
  · rw [dif_pos h, dif_pos (by dsimp only; omega)]
    simp only [Nat.add_comm 1]
  · rw [dif_neg h, dif_neg (by dsimp only; omega)]

/-- The bias as the region finds it. -/
theorem bias_apply (j : Fin 8192) : V m c main_v14 (ix2 0 j) = (m ((c : Thread nD τ).loc main_arg7) : Vec Ideal S8192 .f32) (ix1 j) := by
  unfold V V0
  simp only [hostOps0, List.flatten_cons, List.flatten_nil, List.append_nil]
  after_results
  pointwise
/-- Gamma as the region finds it. -/
theorem gamma_apply (j : Fin 1024) : V m c main_v15 (ix2 0 j) = (m ((c : Thread nD τ).loc main_arg4) : Vec Ideal S1024 .f32) (ix1 j) := by
  unfold V V0
  simp only [hostOps0, List.flatten_cons, List.flatten_nil, List.append_nil]
  after_results
  pointwise
/-- Beta as the region finds it. -/
theorem beta_apply (j : Fin 1024) : V m c main_v16 (ix2 0 j) = (m ((c : Thread nD τ).loc main_arg5) : Vec Ideal S1024 .f32) (ix1 j) := by
  unfold V V0
  simp only [hostOps0, List.flatten_cons, List.flatten_nil, List.append_nil]
  after_results
  pointwise

/-- An update of the padding starts at the first column. -/
theorem pad_start (n : Fin 9) (a : Fin 2) : scatter_S1x16_S2_S9_0_0_01_0.start (ix1 n) (fun _ => 0#32) a = 0 := by
  revert n a; decide +kernel
/-- And goes to the column of its own number. -/
theorem pad_window (n : Fin 9) : scatter_S1x16_S2_S9_0_0_01_0.window (ix1 n) 0 = 0 ∧ scatter_S1x16_S2_S9_0_0_01_0.window (ix1 n) 1 = n.val := by
  revert n; decide +kernel

/-- The padding's scatter, read at a column. -/
theorem pad_apply (cu : Vec Ideal S9 .i32) (k : Fin 16) :
    Host.scatter scatter_S1x16_S2_S9_0_0_01_0 (fun _ b => b) (fun _ => 0#32) (fun _ => 0#32) cu (ix2 0 k) = cuOf cu k := by
  rw [Routing.scatter_at]
  have e : ∀ n : Fin 9, S9.rowMajor.symm n = ix1 n := fun n => (Idealize.ShloMosaic.Routing.symm1 (N := 9) n).trans rfl
  have hstep : ∀ n : Fin 9, (scatter_S1x16_S2_S9_0_0_01_0.resultIdx? (S9.rowMajor.symm n) (fun _ => 0#32) = some (ix2 0 k)) ↔ n.val = k.val := by
    intro n
    rw [e]
    refine (Routing.resultIdx?_ix2 (R := 1) (C := 16) _ _ _ 0 k).trans ?_
    rw [pad_start, pad_start, (pad_window _).1, (pad_window _).2]
    simp
  have hval : ∀ n : Fin 9, cu (S9.rowMajor.symm n) = cu (ix1 n) := fun n => congrArg cu (e n)
  have hf : (fun a (n : Fin 9) => if scatter_S1x16_S2_S9_0_0_01_0.resultIdx? (S9.rowMajor.symm n) (fun _ => 0#32) = some (ix2 0 k) then cu (S9.rowMajor.symm n) else a)
      = fun a (n : Fin 9) => if n.val = k.val then cu (ix1 n) else a := funext fun a => funext fun n => by simp only [hstep, hval]
  refine (congrArg (fun f => (List.finRange 9).foldl f 0#32) hf).trans ?_
  rw [show List.finRange 9 = [0, 1, 2, 3, 4, 5, 6, 7, 8] from by decide]
  unfold cuOf
  simp only [List.foldl_cons, List.foldl_nil]
  fin_cases k <;> rfl

/-- The segment starts as the region finds them. -/
theorem cu_apply (k : Fin 16) : V m c main_v13 (ix2 0 k) = cuOf (m ((c : Thread nD τ).loc main_arg3)) k := by
  unfold V V0
  simp only [hostOps0, List.flatten_cons, List.flatten_nil, List.append_nil]
  after_results
  have h0 : broadcastInDim S1x16 ![] bcast_S_S1x16 (constantI S_ 32 0#32) = fun _ => 0#32 := rfl
  have h1 : concatenate S2 0 [⟨S1, broadcastInDim S1 ![] bcast_S_S1 (constantI S_ 32 0#32)⟩, ⟨S1, broadcastInDim S1 ![] bcast_S_S1 (constantI S_ 32 0#32)⟩] concatenates_S1_S1_S2_d0
      = fun _ => 0#32 := by
    funext i
    obtain ⟨j, rfl⟩ : ∃ j : Fin 2, i = ix1 j := ⟨i 0, by funext a; match a with | ⟨0, _⟩ => rfl⟩
    revert j; decide +kernel
  rw [h0, h1]
  exact pad_apply _ k

/-- Point `t`'s blocks are the `t`-th. -/
theorem coord_eq (t : Fin cfg0.N) : (grid0.coords t 0).val = t.val := by
  rcases fin_N0 t with rfl | rfl | rfl | rfl | rfl | rfl | rfl | rfl <;> decide +kernel

/-- The points as numbers below eight. -/
def ptOf (t : Fin cfg0.N) : Fin 8 := ⟨t.val, lt_of_lt_of_eq t.isLt N_0⟩

/-- The embeddings' block of a point is the one of its number. -/
theorem index_rows (t : Fin cfg0.N) : win0_0.index t 0 = t.val ∧ win0_0.index t 1 = 0 := by
  rcases fin_N0 t with rfl | rfl | rfl | rfl | rfl | rfl | rfl | rfl <;> decide +kernel
/-- The labels' block of a point is the one of its number. -/
theorem index_labels (t : Fin cfg0.N) : win0_2.index t 0 = t.val ∧ win0_2.index t 1 = 0 ∧ win0_2.index t 2 = 0 := by
  rcases fin_N0 t with rfl | rfl | rfl | rfl | rfl | rfl | rfl | rfl <;> decide +kernel
/-- The mask's block of a point is the one of its number. -/
theorem index_mask (t : Fin cfg0.N) : win0_3.index t 0 = t.val ∧ win0_3.index t 1 = 0 ∧ win0_3.index t 2 = 0 := by
  rcases fin_N0 t with rfl | rfl | rfl | rfl | rfl | rfl | rfl | rfl <;> decide +kernel
/-- The bias has one block. -/
theorem index_bias (t : Fin cfg0.N) : win0_1.index t 0 = 0 ∧ win0_1.index t 1 = 0 := by
  rcases fin_N0 t with rfl | rfl | rfl | rfl | rfl | rfl | rfl | rfl <;> decide +kernel
/-- The segment starts have one block. -/
theorem index_cu (t : Fin cfg0.N) : win0_4.index t 0 = 0 ∧ win0_4.index t 1 = 0 := by
  rcases fin_N0 t with rfl | rfl | rfl | rfl | rfl | rfl | rfl | rfl <;> decide +kernel
/-- Gamma has one block. -/
theorem index_gamma (t : Fin cfg0.N) : win0_5.index t 0 = 0 ∧ win0_5.index t 1 = 0 := by
  rcases fin_N0 t with rfl | rfl | rfl | rfl | rfl | rfl | rfl | rfl <;> decide +kernel
/-- Beta has one block. -/
theorem index_beta (t : Fin cfg0.N) : win0_6.index t 0 = 0 ∧ win0_6.index t 1 = 0 := by
  rcases fin_N0 t with rfl | rfl | rfl | rfl | rfl | rfl | rfl | rfl <;> decide +kernel

/-- The embeddings' block. -/
theorem rows_at (t : Fin cfg0.N) (r d : Fin 1024) : iblk m c 0 t (ix2 r d) = (m ((c : Thread nD τ).loc main_arg0) : Vec Ideal S8192x1024 .f32) (ix2 (rowOf (ptOf t) r) d) := by
  unfold iblk
  rw [View.read_apply]
  show V m c main_arg0 _ = _
  rw [V_main_arg0]
  congr 1
  funext a
  apply Fin.ext
  match a with
  | ⟨0, _⟩ => show win0_0.index t 0 * 1024 + 1 * r.val = t.val * 1024 + r.val
              rw [(index_rows t).1, Nat.one_mul]
  | ⟨1, _⟩ => show win0_0.index t 1 * 1024 + 1 * d.val = d.val
              rw [(index_rows t).2]; omega

/-- The bias's block. -/
theorem bias_at (t : Fin cfg0.N) (j : Fin 8192) : iblk m c 1 t (ix2 0 j) = (m ((c : Thread nD τ).loc main_arg7) : Vec Ideal S8192 .f32) (ix1 j) := by
  unfold iblk
  rw [View.read_apply]
  refine Eq.trans ?_ (bias_apply m c j)
  show V m c main_v14 _ = _
  congr 1
  funext a
  apply Fin.ext
  match a with
  | ⟨0, _⟩ => show win0_1.index t 0 * 1 + 1 * 0 = 0
              rw [(index_bias t).1]
  | ⟨1, _⟩ => show win0_1.index t 1 * 8192 + 1 * j.val = j.val
              rw [(index_bias t).2]; omega

/-- The segment starts' block. -/
theorem cu_at (t : Fin cfg0.N) (j : Fin 16) : iblk m c 4 t (ix2 0 j) = cuOf (m ((c : Thread nD τ).loc main_arg3)) j := by
  unfold iblk
  rw [View.read_apply]
  refine Eq.trans ?_ (cu_apply m c j)
  show V m c main_v13 _ = _
  congr 1
  funext a
  apply Fin.ext
  match a with
  | ⟨0, _⟩ => show win0_4.index t 0 * 1 + 1 * 0 = 0
              rw [(index_cu t).1]
  | ⟨1, _⟩ => show win0_4.index t 1 * 16 + 1 * j.val = j.val
              rw [(index_cu t).2]; omega

/-- Gamma's block. -/
theorem gamma_at (t : Fin cfg0.N) (j : Fin 1024) : iblk m c 5 t (ix2 0 j) = (m ((c : Thread nD τ).loc main_arg4) : Vec Ideal S1024 .f32) (ix1 j) := by
  unfold iblk
  rw [View.read_apply]
  refine Eq.trans ?_ (gamma_apply m c j)
  show V m c main_v15 _ = _
  congr 1
  funext a
  apply Fin.ext
  match a with
  | ⟨0, _⟩ => show win0_5.index t 0 * 1 + 1 * 0 = 0
              rw [(index_gamma t).1]
  | ⟨1, _⟩ => show win0_5.index t 1 * 1024 + 1 * j.val = j.val
              rw [(index_gamma t).2]; omega

/-- Beta's block. -/
theorem beta_at (t : Fin cfg0.N) (j : Fin 1024) : iblk m c 6 t (ix2 0 j) = (m ((c : Thread nD τ).loc main_arg5) : Vec Ideal S1024 .f32) (ix1 j) := by
  unfold iblk
  rw [View.read_apply]
  refine Eq.trans ?_ (beta_apply m c j)
  show V m c main_v16 _ = _
  congr 1
  funext a
  apply Fin.ext
  match a with
  | ⟨0, _⟩ => show win0_6.index t 0 * 1 + 1 * 0 = 0
              rw [(index_beta t).1]
  | ⟨1, _⟩ => show win0_6.index t 1 * 1024 + 1 * j.val = j.val
              rw [(index_beta t).2]; omega

/-- The labels' block. -/
theorem label_at (t : Fin cfg0.N) (r : Fin 1024) : iblk m c 2 t (ix3 0 0 r) = labelOf (m ((c : Thread nD τ).loc main_arg1)) (rowOf (ptOf t) r) := by
  unfold iblk
  rw [View.read_apply]
  refine Eq.trans ?_ (labels_apply m c (ptOf t) r)
  show V m c main_v6 _ = _
  congr 1
  funext a
  apply Fin.ext
  match a with
  | ⟨0, _⟩ => show win0_2.index t 0 * 1 + 1 * 0 = t.val
              rw [(index_labels t).1]; omega
  | ⟨1, _⟩ => show win0_2.index t 1 * 1 + 1 * 0 = 0
              rw [(index_labels t).2.1]
  | ⟨2, _⟩ => show win0_2.index t 2 * 1024 + 1 * r.val = r.val
              rw [(index_labels t).2.2]; omega

/-- The mask's block. -/
theorem mask_at (t : Fin cfg0.N) (r : Fin 1024) : iblk m c 3 t (ix3 0 0 r) = FloatOps.uitofp (F := Ideal) .f32 (maskOf (m ((c : Thread nD τ).loc main_arg2)) (rowOf (ptOf t) r)) := by
  unfold iblk
  rw [View.read_apply]
  refine Eq.trans ?_ (mask_apply m c (ptOf t) r)
  show V m c main_v8 _ = _
  congr 1
  funext a
  apply Fin.ext
  match a with
  | ⟨0, _⟩ => show win0_3.index t 0 * 1 + 1 * 0 = t.val
              rw [(index_mask t).1]; omega
  | ⟨1, _⟩ => show win0_3.index t 1 * 1 + 1 * 0 = 0
              rw [(index_mask t).2.1]
  | ⟨2, _⟩ => show win0_3.index t 2 * 1024 + 1 * r.val = r.val
              rw [(index_mask t).2.2]; omega

/-- The rounded weights are the weights. -/
theorem wOf_apply (d : Fin 1024) (j : Fin 8192) : wOf m c (ix2 d j) = (m ((c : Thread nD τ).loc main_arg6) : Vec Ideal S1024x8192 .f32) (ix2 d j) := by
  unfold wOf wArr
  rw [V_main_arg6]
  rfl

end Cert.KernelIdeal.Value
end
-- ==== Proof.RefValue.lean ====
module

public import proofs.«01_k».proof.Proof.Gen.ReferenceIdeal.Read
public import proofs.«01_k».proof.Proof.Entry
public import Idealize.ShloMosaic.Lib.Routing.OpsPair
public import Idealize.ShloMosaic.Lib.Routing.Ops
public import Idealize.ShloMosaic.Lib.Pointwise
public import Idealize.ShloMosaic.Lib.ReduceAll

/-!
What the reference computes, by entries: a row's normalised state, its scores, its negative log probability at the label,
the mask with the segment starts taken out, and the quotient of the two sums.
-/

@[expose] public section

set_option maxRecDepth 16384

noncomputable section

namespace Cert.ReferenceIdeal.Read

open Cert.ReferenceIdeal Cert.ReferenceIdeal.Gen Idealize.ShloMosaic Idealize.ShloMosaic.TcCoe Idealize.SL.Sem Idealize.ShloMosaic.StableHlo
open Cert.KernelIdeal.Value (rowMean rowVar rowHat scoreOf)

variable (x0 : Vec Ideal S8192x1024 .f32) (x1 : Vec Ideal S8192 .i32) (x2 : Vec Ideal S8192 .i1) (x3 : Vec Ideal S9 .i32)
  (x4 x5 : Vec Ideal S1024 .f32) (x6 : Vec Ideal S1024x8192 .f32) (x7 : Vec Ideal S8192 .f32)

/-- A row of the embeddings. -/
def rowE (r : Fin 8191) (d : Fin 1024) : EReal := x0 (ix2 (⟨r.val, by omega⟩ : Fin 8192) d)

/-- The row normalised as the reference does it: divided by the square root. -/
def rowDiv (e : Fin 1024 → EReal) (d : Fin 1024) : EReal :=
  Ideal.div (e d - rowMean e) (Ideal.sqrt (rowVar e + Ideal.ofBits FTy.f32 0x3727C5AC#32))

/-- The reference's scores of a row. -/
def refScore (r : Fin 8191) (j : Fin 8192) : EReal :=
  scoreOf (rowDiv (rowE x0 r)) (fun d => x4 (ix1 d)) (fun d => x5 (ix1 d)) (fun d j => x6 (ix2 d j)) (fun j => x7 (ix1 j)) j

/-- The mean. -/
theorem mean_apply (r : Fin 8191) : val_main_v16 x0 (ix2 r 0) = rowMean (rowE x0 r) := by
  unfold val_main_v16 val_main_v15 val_main_cst_2 val_main_v14 val_main_v13 val_main_v12 val_main_cst rowMean rowE
  pointwise

/-- The mean as the variance takes it. -/
theorem mean2_apply (r : Fin 8191) : val_main_call0_v3 x0 (ix2 r 0) = rowMean (rowE x0 r) := by
  pointwise [val_main_call0_v3, val_main_call0_v2, val_main_call0_v1, val_main_call0_v0, val_main_call0_cst, val_main_call0_cst_0, val_main_v12, rowMean, rowE]

/-- The divisor of the variance is 1024. -/
theorem divisor_eq (i : S_.Idx) : val_main_call0_v8 (F := Ideal) i = Ideal.ofBits FTy.f32 0x44800000#32 := by
  show Ideal.ofBits FTy.f32 0x44800000#32 - (((0#32 : BitVec 32).toInt : ℝ) : EReal) = _
  simp

/-- And it is positive. -/
theorem divisor_pos : (0 : EReal) < Ideal.ofBits FTy.f32 0x44800000#32 := by
  simp [Ideal.ofBits, Ideal.ieee, -EReal.coe_mul]

/-- The variance. -/
theorem var_apply (r : Fin 8191) : val_main_v17 x0 (ix2 r 0) = rowVar (rowE x0 r) := by
  have hv : val_main_call0_v12 x0 (ix2 r 0) = rowVar (rowE x0 r) := by
    have hm : (fun d => val_main_call0_v5 x0 (ix2 r d)) = fun d => rowE x0 r d - rowMean (rowE x0 r) := funext fun d => by
      have h := mean2_apply x0 r
      unfold val_main_call0_v5 val_main_call0_v4 val_main_v12
      generalize val_main_call0_v3 x0 = y at h
      rw [← h]
      pointwise [rowE]
    have hd := divisor_eq ix0
    unfold val_main_call0_v12 val_main_call0_v11 val_main_call0_v10 val_main_call0_v9 val_main_call0_v6 val_main_call0_cst_2 rowVar
    generalize val_main_call0_v8 (F := Ideal) = z at hd
    generalize val_main_call0_v5 x0 = y at hm
    simp only [← fun d => congrFun hm d]
    rw [← hd]
    pointwise
  have hp : val_main_call0_cst_3 (F := Ideal) ix0 < val_main_call0_v8 (F := Ideal) ix0 := by
    rw [divisor_eq]
    refine lt_of_eq_of_lt ?_ divisor_pos
    show Ideal.ofBits FTy.f32 0x00000000#32 = 0
    simp [Ideal.ofBits, Ideal.ieee]
  rw [← hv]
  pointwise [val_main_v17, val_main_call0_v13]
  rw [if_pos hp]

/-- The row, normalised. -/
theorem hat_apply (r : Fin 8191) (d : Fin 1024) : val_main_v24 x0 (ix2 r d) = rowDiv (rowE x0 r) d := by
  have h1 := mean_apply x0 r
  have h2 := var_apply x0 r
  unfold val_main_v24 val_main_v23 val_main_v22 val_main_v21 val_main_v20 val_main_cst_4 val_main_v19 val_main_v18 val_main_v12 rowDiv
  generalize val_main_v16 x0 = y1 at h1
  generalize val_main_v17 x0 = y2 at h2
  rw [← h1, ← h2]
  pointwise [rowE]

/-- The scores. -/
theorem score_apply (r : Fin 8191) (j : Fin 8192) : val_main_v34 x0 x4 x5 x6 x7 (ix2 r j) = refScore x0 x4 x5 x6 x7 r j := by
  have h : (fun d => val_main_v24 x0 (ix2 r d)) = fun d => rowDiv (rowE x0 r) d := funext fun d => hat_apply x0 r d
  unfold val_main_v34 val_main_v33 val_main_v32 val_main_v31 val_main_v30 val_main_v29 val_main_v28 val_main_v27 val_main_v26 val_main_v25 refScore scoreOf
  generalize val_main_v24 x0 = y at h
  simp only [← fun d => congrFun h d]
  pointwise

/-- The greatest of a row's scores. -/
def rowMax (s : Fin 8192 → EReal) : EReal := max ⊥ (Finset.univ.fold max ⊥ s)

/-- The logarithm of a column's probability, as the reference computes it: the greatest score taken off first. -/
def logProb (s : Fin 8192 → EReal) (j : Fin 8192) : EReal :=
  (s j - rowMax s) - Ideal.log (∑ k, Ideal.exp (s k - rowMax s))

/-- The word of −∞. -/
theorem bot_word : (FloatOps.ofBits .f32 0xFF800000#32 : Ideal .f32) = (⊥ : EReal) := by
  show Ideal.ofBits .f32 0xFF800000#32 = ⊥
  simp [Ideal.ofBits, Ideal.ieee]

/-- A row's greatest entry, by the fold over its columns. -/
theorem reduce_max_apply (y : Vec Ideal S8191x8192 .f32) (e : Vec Ideal S_ .f32) (r : Fin 8191) :
    Host.reduce (FloatOps.maximumf (F := Ideal) (φ := .f32)) y e reducesTo_S8191x8192_S8191_d1 h_S_ (ix1 r) = Finset.univ.fold max (e (Shape.Idx.first h_S_)) (fun j => y (ix2 r j)) := by
  pointwise

/-- The greatest score, as the reference has it. -/
theorem max_apply (r : Fin 8191) : val_main_call1_v2 x0 x4 x5 x6 x7 (ix1 r) = rowMax (refScore x0 x4 x5 x6 x7 r) := by
  have h : (fun j => val_main_v34 x0 x4 x5 x6 x7 (ix2 r j)) = refScore x0 x4 x5 x6 x7 r := funext fun j => score_apply x0 x4 x5 x6 x7 r j
  rw [val_main_call1_v2_apply]
  have h0 : val_main_call1_v0 x0 x4 x5 x6 x7 (ix1 r) = Finset.univ.fold max ⊥ (refScore x0 x4 x5 x6 x7 r) := by
    unfold val_main_call1_v0
    rw [reduce_max_apply, h, val_main_call1_cst_apply, bot_word]
  rw [h0, val_main_call1_v1_apply, val_main_call1_cst_0_apply, bot_word]
  rfl

/-- The logarithm of the probability, as the reference has it. -/
theorem logProb_apply (r : Fin 8191) (j : Fin 8192) : val_main_v35 x0 x4 x5 x6 x7 (ix2 r j) = logProb (refScore x0 x4 x5 x6 x7 r) j := by
  have h : (fun j => val_main_v34 x0 x4 x5 x6 x7 (ix2 r j)) = refScore x0 x4 x5 x6 x7 r := funext fun j => score_apply x0 x4 x5 x6 x7 r j
  have hm := max_apply x0 x4 x5 x6 x7 r
  unfold val_main_v35 val_main_call1_v10 val_main_call1_v9 val_main_call1_v8 val_main_call1_v7 val_main_call1_cst_1 val_main_call1_v6 val_main_call1_v5 val_main_call1_v4 val_main_call1_v3
  unfold logProb
  generalize val_main_v34 x0 x4 x5 x6 x7 = y at h
  generalize val_main_call1_v2 x0 x4 x5 x6 x7 = z at hm
  rw [← hm, ← h]
  pointwise

/-- The gather along the columns, read at a row. -/
theorem take_apply (x : Vec Ideal S8191x8192 .f32) (idx : IVec S8191x1x1 32) (r : Fin 8191) :
    Host.gather gather_S8191x8192_S8191x1x1_S8191x1_n_1_0_0_1_2_11 x idx (ix2 r 0)
      = x (ix2 r (⟨min (idx (ix3 r 0 0)).toInt.toNat 8191, by omega⟩ : Fin 8192)) := by
  unfold Host.gather
  congr 1
  funext a
  apply Fin.ext
  show GatherDims.start _ _ idx a + GatherDims.batchCoord _ _ a + GatherDims.offCoord _ _ a = _
  have h01 : a = 0 ∨ a = 1 := by
    match a with
    | ⟨0, _⟩ => exact .inl rfl
    | ⟨1, _⟩ => exact .inr rfl
  rcases h01 with rfl | rfl
  · rw [GatherDims.start_batching _ _ _ _ (by decide), GatherDims.offCoord_eq_zero _ _ _ (by decide), Nat.zero_add, Nat.add_zero]
    unfold GatherDims.batchCoord
    rw [dif_pos (by decide)]
    rfl
  · rw [GatherDims.batchCoord_eq_zero _ _ _ (by decide), GatherDims.offCoord_eq_zero _ _ _ (by decide), Nat.add_zero]
    have hs : ∀ q, gather_S8191x8192_S8191x1x1_S8191x1_n_1_0_0_1_2_11.siIdx (ix2 r 0) q = ix3 r 0 0 := by
      intro q
      funext b
      match b with
      | ⟨0, _⟩ => rfl
      | ⟨1, _⟩ => rfl
      | ⟨2, _⟩ => exact Fin.ext (show q.val = 0 from Nat.lt_one_iff.mp q.isLt)
    unfold GatherDims.start
    rw [dif_pos (by decide), hs]
    rfl

/-- The token that is the label of a row. -/
def tokOf (r : Fin 8191) : BitVec 32 := x1 (ix1 (⟨r.val + 1, by omega⟩ : Fin 8192))

/-- The index word of a row is its label. -/
theorem index_apply (r : Fin 8191) (h : (tokOf x1 r).toNat < 8192) : val_main_call2_v5 (F := Ideal) x1 (ix3 r 0 0) = tokOf x1 r := by
  have hw := Routing.wrap_of_lt (tokOf x1 r) (IntOp.addi (tokOf x1 r) 8192#32) (by omega)
  pointwise [val_main_call2_v5, val_main_call2_v4, val_main_call2_v3, val_main_call2_v2, val_main_call2_v1, val_main_call2_v0, val_main_call2_c, val_main_call2_c_0, val_main_v36, val_main_v9]
  simp only [Nat.add_comm 1]
  exact hw

/-- The index is in range. -/
theorem inside_apply (r : Fin 8191) (h : (tokOf x1 r).toNat < 8192) : val_main_call2_v12 (F := Ideal) x1 (ix2 r 0) = 1#1 := by
  have hi := index_apply x1 r h
  unfold val_main_call2_v12 val_main_call2_v11 val_main_call2_v10 val_main_call2_v9 val_main_call2_v8 val_main_call2_v7 val_main_call2_v6 val_main_call2_c_1 val_main_call2_c_2 val_main_call2_c_3
  generalize val_main_call2_v5 (F := Ideal) x1 = y at hi
  have hs : IntOp.cmpi CmpIPredicate.sge (tokOf x1 r) 0#32 = 1#1 ∧ IntOp.cmpi CmpIPredicate.sle (tokOf x1 r) 8191#32 = 1#1 := by
    generalize tokOf x1 r = w at h
    have hw : w.toInt = w.toNat := BitVec.toInt_eq_toNat_of_lt (by omega)
    constructor
    · simp only [IntOp.cmpi, BitVec.sle, hw]; simp
    · simp only [IntOp.cmpi, BitVec.sle, hw]
      rw [decide_eq_true (show (w.toNat : Int) ≤ (8191#32 : BitVec 32).toInt by show (w.toNat : Int) ≤ 8191; omega)]
      rfl
  pointwise
  rw [show (Finset.univ : Finset (Fin 1)) = {0} from rfl, Finset.fold_singleton, hi, hs.1, hs.2]
  rfl

/-- The negative log probability of a row. -/
theorem nll_apply (r : Fin 8191) (h : (tokOf x1 r).toNat < 8192) :
    val_main_v39 x0 x1 x4 x5 x6 x7 (ix1 r) = -logProb (refScore x0 x4 x5 x6 x7 r) ⟨(tokOf x1 r).toNat, h⟩ := by
  have hi := index_apply x1 r h
  have hin := inside_apply x1 r h
  have hl := logProb_apply x0 x4 x5 x6 x7 r ⟨(tokOf x1 r).toNat, h⟩
  have ht : val_main_call2_v13 x0 x1 x4 x5 x6 x7 (ix2 r 0) = val_main_v35 x0 x4 x5 x6 x7 (ix2 r ⟨(tokOf x1 r).toNat, h⟩) := by
    unfold val_main_call2_v13
    rw [take_apply]
    congr 2
    apply Fin.ext
    dsimp only
    rw [hi]
    have : (tokOf x1 r).toInt = (tokOf x1 r).toNat := by
      rw [BitVec.toInt_eq_toNat_of_lt (by omega)]
    rw [this]
    omega
  rw [← hl, ← ht]
  unfold val_main_v39 val_main_v38 val_main_v37
  generalize val_main_call2_v12 (F := Ideal) x1 = z at hin
  generalize val_main_call2_v13 x0 x1 x4 x5 x6 x7 = y
  pointwise
  rw [hin]
  rfl

/-- A fold that overwrites with zero ends at zero exactly if it overwrites at all. -/
theorem fold_clear {n : ℕ} (P : Fin n → Prop) [DecidablePred P] (l : List (Fin n)) (a : BitVec 1) :
    l.foldl (fun a k => if P k then 0#1 else a) a = if ∃ k ∈ l, P k then 0#1 else a := by
  induction l generalizing a with
  | nil => simp
  | cons k l ih =>
    rw [List.foldl_cons, ih]
    by_cases hk : P k
    · simp [hk]
    · simp [hk]

/-- A segment start as the reference takes it. -/
def startOf (k : Fin 7) : BitVec 32 := x3 (ix1 (⟨k.val + 1, by omega⟩ : Fin 9))

/-- The scatter's index word is the segment start. -/
theorem cut_apply (k : Fin 7) (h : (startOf x3 k).toNat < 2 ^ 31) : val_main_v6 (F := Ideal) x3 (ix2 k 0) = startOf x3 k := by
  have hw := Routing.wrap_of_lt (startOf x3 k) (IntOp.addi (startOf x3 k) 8192#32) h
  pointwise [val_main_v6, val_main_v5, val_main_v4, val_main_v3, val_main_v2, val_main_v1, val_main_v0, val_main_c, val_main_c_0]
  simp only [Nat.add_comm 1]
  exact hw

/-- Where a segment start lands. -/
theorem cut_start (idx : IVec S7x1 32) (k : Fin 7) : scatter_S8192_S7x1_S7_n_0_0_1.start (ix1 k) idx 0 = (idx (ix2 k 0)).toInt := by
  have hs : scatter_S8192_S7x1_S7_n_0_0_1.siIdx (ix1 k) ⟨0, by decide⟩ = ix2 k 0 := by
    funext b; match b with
    | ⟨0, _⟩ => rfl
    | ⟨1, _⟩ => rfl
  show (idx (scatter_S8192_S7x1_S7_n_0_0_1.siIdx (ix1 k) ⟨0, by decide⟩)).toInt = _
  rw [hs]

/-- The mask with the segment starts taken out. -/
theorem cleared_apply (h : ∀ k, (startOf x3 k).toNat < 2 ^ 31) (j : Fin 8192) :
    val_main_v8 x2 x3 (ix1 j) = if ∃ k : Fin 7, (startOf x3 k).toNat = j.val then 0#1 else x2 (ix1 j) := by
  unfold val_main_v8
  rw [Routing.scatter_at]
  have e : ∀ n : Fin 7, S7.rowMajor.symm n = ix1 n := fun n => (Routing.symm1 (N := 7) n).trans rfl
  have hstep : ∀ n : Fin 7, (scatter_S8192_S7x1_S7_n_0_0_1.resultIdx? (S7.rowMajor.symm n) (val_main_v6 (F := Ideal) x3) = some (ix1 j)) ↔ (startOf x3 n).toNat = j.val := by
    intro n
    rw [e]
    refine (Routing.resultIdx?_ix1 (N := 8192) _ _ _ j).trans ?_
    rw [cut_start, cut_apply x3 n (h n), BitVec.toInt_eq_toNat_of_lt (by have := h n; omega)]
    have hw : scatter_S8192_S7x1_S7_n_0_0_1.window (ix1 n) 0 = 0 := by revert n; decide +kernel
    rw [hw]
    omega
  have hf : (fun a (n : Fin 7) => if scatter_S8192_S7x1_S7_n_0_0_1.resultIdx? (S7.rowMajor.symm n) (val_main_v6 (F := Ideal) x3) = some (ix1 j) then val_main_v7 (F := Ideal) (S7.rowMajor.symm n) else a)
      = fun a (n : Fin 7) => if (startOf x3 n).toNat = j.val then 0#1 else a := funext fun a => funext fun n => by
    simp only [hstep]
    rfl
  refine (congrArg (fun f => (List.finRange 7).foldl f (x2 (ix1 j))) hf).trans ?_
  rw [fold_clear]
  simp

/-- The weight of a row: zero if the next row starts a segment, and else the next row's mask. -/
def refBit (r : Fin 8191) : BitVec 1 :=
  if ∃ k : Fin 7, (startOf x3 k).toNat = r.val + 1 then 0#1 else x2 (ix1 (⟨r.val + 1, by omega⟩ : Fin 8192))

/-- The weight, as the reference has it. -/
theorem weight_apply (h : ∀ k, (startOf x3 k).toNat < 2 ^ 31) (r : Fin 8191) :
    val_main_v11 (F := Ideal) x2 x3 (ix1 r) = FloatOps.uitofp (F := Ideal) .f32 (refBit x2 x3 r) := by
  have hc := cleared_apply x2 x3 h ⟨r.val + 1, by omega⟩
  unfold refBit
  rw [← hc]
  unfold val_main_v11 val_main_v10
  generalize val_main_v8 x2 x3 = y
  pointwise
  simp only [Nat.add_comm 1]

/-- The reference's result: the weighted sum of the negative log probabilities over the number of weighted rows, or over one. -/
theorem ref_apply (h : ∀ k, (startOf x3 k).toNat < 2 ^ 31) (ht : ∀ r, (tokOf x1 r).toNat < 8192) (i : S_.Idx) :
    val_main_v44 x0 x1 x2 x3 x4 x5 x6 x7 i
      = Ideal.div (∑ r : Fin 8191, -logProb (refScore x0 x4 x5 x6 x7 r) ⟨(tokOf x1 r).toNat, ht r⟩ * FloatOps.uitofp (F := Ideal) .f32 (refBit x2 x3 r))
        (max (∑ r : Fin 8191, FloatOps.uitofp (F := Ideal) .f32 (refBit x2 x3 r)) 1) := by
  have h1 : (fun r => val_main_v39 x0 x1 x4 x5 x6 x7 (ix1 r)) = fun r => -logProb (refScore x0 x4 x5 x6 x7 r) ⟨(tokOf x1 r).toNat, ht r⟩ :=
    funext fun r => nll_apply x0 x1 x4 x5 x6 x7 r (ht r)
  have h2 : (fun r => val_main_v11 (F := Ideal) x2 x3 (ix1 r)) = fun r => FloatOps.uitofp (F := Ideal) .f32 (refBit x2 x3 r) :=
    funext fun r => weight_apply x2 x3 h r
  simp only [← fun r => congrFun h1 r, ← fun r => congrFun h2 r]
  unfold val_main_v44 val_main_v43 val_main_v42 val_main_v41 val_main_v40 val_main_cst_5 val_main_cst_6 val_main_cst_7
  generalize val_main_v39 x0 x1 x4 x5 x6 x7 = y
  generalize val_main_v11 (F := Ideal) x2 x3 = z
  pointwise

end Cert.ReferenceIdeal.Read
end
-- ==== Proof.Math.lean ====
module

public import proofs.«01_k».proof.Proof.RefValue

/-!
The mathematics of a row: dividing by the square root is multiplying by the reciprocal one, the normalised row is finite
whatever the row holds, and the two ways to the negative log probability agree.
-/

@[expose] public section

noncomputable section

namespace Cert.Rows

open Idealize.ShloMosaic
open Cert.KernelIdeal.Value (rowMean rowVar rowHat scoreOf)
open Cert.ReferenceIdeal.Read (rowDiv rowMax logProb)

/-- A square is not negative. -/
theorem sq_nonneg (x : EReal) : 0 ≤ x * x := by
  induction x with
  | bot => simp
  | top => simp
  | coe r => rw [← EReal.coe_mul]; exact_mod_cast mul_self_nonneg r

/-- A number whose square is not infinite is a real one. -/
theorem real_of_sq (x : EReal) (h : x * x ≠ ⊤) : ∃ r : ℝ, x = r := by
  induction x with
  | bot => exact absurd (by simp) h
  | top => exact absurd (by simp) h
  | coe r => exact ⟨r, rfl⟩

/-- The word of 1024. -/
theorem word_1024 : Ideal.ofBits FTy.f32 0x44800000#32 = ((1024 : ℝ) : EReal) := by
  simp [Ideal.ofBits, Ideal.ieee, -EReal.coe_mul]
  norm_num

/-- The small constant is positive. -/
theorem word_eps : ∃ ε : ℝ, 0 < ε ∧ Ideal.ofBits FTy.f32 0x3727C5AC#32 = (ε : EReal) := by
  refine ⟨_, ?_, by simp [Ideal.ofBits, Ideal.ieee, -EReal.coe_mul]; rfl⟩
  positivity

/-- A row's normalised entry is a real number, and both ways of computing it give it. -/
theorem hat_real (e : Fin 1024 → EReal) (d : Fin 1024) : ∃ r : ℝ, rowHat e d = r ∧ rowDiv e d = r := by
  obtain ⟨ε, hε, he⟩ := word_eps
  unfold rowHat rowDiv
  rw [he]
  have hv : rowVar e = (∑ x, (e x - rowMean e) * (e x - rowMean e)) * ((1 / 1024 : ℝ) : EReal) := by
    unfold rowVar
    rw [word_1024, Ideal.div_coe (by norm_num)]
  generalize rowVar e = v at hv
  generalize rowMean e = μ at hv
  have hS : ∀ x, (e x - μ) * (e x - μ) ≤ ∑ x, (e x - μ) * (e x - μ) := fun x =>
    Finset.single_le_sum (f := fun x => (e x - μ) * (e x - μ)) (fun i _ => sq_nonneg _) (Finset.mem_univ x)
  have h0 : 0 ≤ ∑ x, (e x - μ) * (e x - μ) := Finset.sum_nonneg fun i _ => sq_nonneg _
  generalize (∑ x, (e x - μ) * (e x - μ)) = S at *
  induction S with
  | bot => exact absurd h0 (by simp)
  | top =>
    have : v = ⊤ := by rw [hv]; exact EReal.top_mul_coe_of_pos (by norm_num)
    refine ⟨0, ?_, ?_⟩
    · rw [this, EReal.top_add_coe, Ideal.rsqrt_top, mul_zero]; rfl
    · rw [this, EReal.top_add_coe, Ideal.sqrt_top]
      unfold Ideal.div
      rw [if_neg (by simp), EReal.inv_top, mul_zero]; rfl
  | coe S =>
    have hS0 : 0 ≤ S := by exact_mod_cast h0
    obtain ⟨x, hx⟩ := real_of_sq (e d - μ) (ne_of_lt (lt_of_le_of_lt (hS d) (EReal.coe_lt_top S)))
    rw [hx]
    have hpos : 0 < S * (1 / 1024) + ε := by positivity
    have hs : v + (ε : EReal) = ((S * (1 / 1024) + ε : ℝ) : EReal) := by rw [hv]; push_cast; rfl
    rw [hs]
    have hq : 0 < Real.sqrt (S * (1 / 1024) + ε) := Real.sqrt_pos.mpr hpos
    refine ⟨x * (Real.sqrt (S * (1 / 1024) + ε))⁻¹, ?_, ?_⟩
    · rw [Ideal.rsqrt_coe, if_neg (not_lt.mpr hpos.le), if_neg hpos.ne', ← EReal.coe_mul]
    · rw [Ideal.sqrt_coe, if_neg (not_lt.mpr hpos.le), Ideal.div_coe hq.ne', ← EReal.coe_mul, one_div]

/-- A sum of real numbers is real. -/
theorem sum_real {n : ℕ} (f : Fin n → ℝ) : (∑ i, (f i : EReal)) = ((∑ i, f i : ℝ) : EReal) := by
  induction (Finset.univ : Finset (Fin n)) using Finset.induction_on with
  | empty => simp
  | insert a s ha ih => rw [Finset.sum_insert ha, Finset.sum_insert ha, ih, EReal.coe_add]

/-- Scores of real data are real. -/
theorem score_real (h g be : Fin 1024 → EReal) (W : Fin 1024 → Fin 8192 → EReal) (b : Fin 8192 → EReal)
    (hh : ∀ d, ∃ r : ℝ, h d = r) (hg : ∀ d, ∃ r : ℝ, g d = r) (hb : ∀ d, ∃ r : ℝ, be d = r)
    (hW : ∀ d j, ∃ r : ℝ, W d j = r) (hc : ∀ j, ∃ r : ℝ, b j = r) : ∃ s : Fin 8192 → ℝ, ∀ j, scoreOf h g be W b j = s j := by
  choose h' hh using hh
  choose g' hg using hg
  choose be' hb using hb
  choose W' hW using hW
  choose b' hc using hc
  refine ⟨fun j => ∑ d, (h' d * g' d + be' d) * W' d j + b' j, fun j => ?_⟩
  unfold scoreOf
  rw [EReal.coe_add, ← sum_real, hc]
  refine congrArg (· + (b' j : EReal)) ?_
  refine Finset.sum_congr rfl fun d _ => ?_
  rw [hh, hg, hb, hW]
  push_cast
  rfl

/-- The greatest of real scores is real. -/
theorem max_real (s : Fin 8192 → ℝ) : ∃ M : ℝ, rowMax (fun j => (s j : EReal)) = M := by
  unfold rowMax
  rw [max_eq_right bot_le]
  have h1 : Finset.univ.fold max ⊥ (fun j => (s j : EReal)) < ⊤ :=
    (Finset.fold_max_lt _).mpr ⟨bot_lt_top, fun j _ => EReal.coe_lt_top _⟩
  have h2 : (s 0 : EReal) ≤ Finset.univ.fold max ⊥ (fun j => (s j : EReal)) :=
    (Finset.le_fold_max _).mpr (Or.inr ⟨0, Finset.mem_univ _, le_rfl⟩)
  generalize Finset.univ.fold max ⊥ (fun j => (s j : EReal)) = M at *
  induction M with
  | bot => exact absurd h2 (not_le.mpr (EReal.bot_lt_coe _))
  | top => exact absurd h1 (lt_irrefl _)
  | coe M => exact ⟨M, rfl⟩

/-- The negative log probability of a column, the kernel's way and the reference's. -/
theorem nll_eq (s : Fin 8192 → ℝ) (l : Fin 8192) :
    Ideal.log (Ideal.div (∑ j, Ideal.exp (s j)) (∑ j, if l = j then Ideal.exp (s j) else 0)) = -logProb (fun j => (s j : EReal)) l := by
  obtain ⟨M, hM⟩ := max_real s
  unfold logProb
  rw [hM, Finset.sum_ite_eq, if_pos (Finset.mem_univ l)]
  simp only [Ideal.exp_coe, ← EReal.coe_sub]
  rw [sum_real, sum_real, Ideal.div_coe (Real.exp_pos _).ne', ← EReal.coe_mul]
  have hA : 0 < ∑ j, Real.exp (s j) := Finset.sum_pos (fun j _ => Real.exp_pos _) ⟨l, Finset.mem_univ l⟩
  have hB : ∑ j, Real.exp (s j - M) = (∑ j, Real.exp (s j)) * Real.exp (-M) := by
    rw [Finset.sum_mul]
    exact Finset.sum_congr rfl fun j _ => by rw [sub_eq_add_neg, Real.exp_add]
  rw [hB]
  have h1 : 0 < (∑ j, Real.exp (s j)) * (1 / Real.exp (s l)) := mul_pos hA (one_div_pos.mpr (Real.exp_pos _))
  have h2 : 0 < (∑ j, Real.exp (s j)) * Real.exp (-M) := mul_pos hA (Real.exp_pos _)
  rw [Ideal.log_coe, if_neg (not_le.mpr h1), Ideal.log_coe, if_neg (not_le.mpr h2), ← EReal.coe_sub, ← EReal.coe_neg]
  refine congrArg Real.toEReal ?_
  rw [Real.log_mul hA.ne' (one_div_pos.mpr (Real.exp_pos _)).ne', Real.log_mul hA.ne' (Real.exp_pos _).ne', one_div, Real.log_inv, Real.log_exp, Real.log_exp]
  ring

end Cert.Rows
end
-- ==== Proof.Pre.lean ====
module

public import proofs.«01_k».proof.Pre_in_range
public import proofs.«01_k».proof.Proof.Gen.Pre_in_range
public import Idealize.ShloMosaic.Lib.Pointwise
public import Idealize.ShloMosaic.Lib.ReduceAll
public import Idealize.ShloMosaic.Lib.WordCmp
public import Idealize.ShloMosaic.Lib.Affine
public import Idealize.ShloMosaic.Lib.Routing.Ops

/-!
What the precondition says of the arguments: the four weight arrays hold real numbers, the labels are columns of the
vocabulary, and the segment bounds are nonnegative words that begin at 0 and end at 8192.
-/

@[expose] public section

set_option maxRecDepth 16384

noncomputable section

namespace Cert.Pre_in_range

open Cert.Pre_in_range.Gen Idealize.ShloMosaic Idealize.ShloMosaic.StableHlo

/-- An extended real whose absolute value compares less than infinity is a real number. -/
theorem real_of_lt (x : EReal) (h : Ideal.cmp .olt (max x (-x)) (Ideal.ofBits .f32 0x7F800000#32) = 1#1) : ∃ r : ℝ, x = r := by
  have ht : Ideal.ofBits .f32 0x7F800000#32 = (⊤ : EReal) := by simp [Ideal.ofBits, Ideal.ieee]
  rw [ht] at h
  have hl : max x (-x) < ⊤ := (WordCmp.ofBool_decide_eq_one_iff _).1 h
  induction x using EReal.rec with
  | bot => simp at hl
  | top => simp at hl
  | coe r => exact ⟨r, rfl⟩

/-- A word that is at least 0 as a signed number is below half the range. -/
theorem lt_of_sge (w : BitVec 32) (h : IntOp.cmpi .sge w 0#32 = 1#1) : w.toNat < 2 ^ 31 := by
  rw [WordCmp.cmpi_sge_eq, WordCmp.ofBool_decide_eq_one_iff] at h
  have h0 : (0#32 : BitVec 32).toInt = 0 := by decide
  rw [h0, BitVec.toInt_eq_toNat_cond] at h
  have := w.isLt
  split at h <;> omega

/-- A word between 0 and 8192 as a signed number is below 8192 as a natural number. -/
theorem lt_of_range (w : BitVec 32) (h : IntOp.cmpi .sge w 0#32 = 1#1) (h' : IntOp.cmpi .slt w 8192#32 = 1#1) :
    w.toNat < 8192 := by
  have hw := lt_of_sge w h
  rw [WordCmp.cmpi_slt_eq, WordCmp.ofBool_decide_eq_one_iff] at h'
  have h0 : (8192#32 : BitVec 32).toInt = 8192 := by decide
  rw [h0, BitVec.toInt_eq_toNat_of_lt (by omega)] at h'
  omega

/-- Words that compare equal are equal. -/
theorem eq_of_cmpi (x y : BitVec 32) (h : IntOp.cmpi .eq x y = 1#1) : x = y := by
  rw [WordCmp.cmpi_eq_eq, WordCmp.ofBool_decide_eq_one_iff] at h
  exact h

variable (x0 : FVec Ideal S8192x1024 .f32) (x1 : IVec S8192 32) (x2 : IVec S8192 1) (x3 : IVec S9 32)
  (x4 x5 : FVec Ideal S1024 .f32) (x6 : FVec Ideal S1024x8192 .f32) (x7 : FVec Ideal S8192 .f32)

/-- The precondition, element by element. -/
structure Holds : Prop where
  gamma : ∀ d : Fin 1024, ∃ r : ℝ, x4 (ix1 d) = r
  beta : ∀ d : Fin 1024, ∃ r : ℝ, x5 (ix1 d) = r
  weight : ∀ (d : Fin 1024) (j : Fin 8192), ∃ r : ℝ, x6 (ix2 d j) = r
  bias : ∀ j : Fin 8192, ∃ r : ℝ, x7 (ix1 j) = r
  token : ∀ r : Fin 8191, (x1 (ix1 (⟨r.val + 1, by omega⟩ : Fin 8192))).toNat < 8192
  bound : ∀ k : Fin 9, (x3 (ix1 k)).toNat < 2 ^ 31
  first : x3 (ix1 (0 : Fin 9)) = 0#32
  last : x3 (ix1 (8 : Fin 9)) = 8192#32

instance : Subsingleton S_.Idx := ⟨fun a b => funext fun k => k.elim0⟩

/-- The array of the precondition is all ones only where each of its conjuncts holds. -/
theorem holds_of (h : fn (F := Ideal) x0 x1 x2 x3 x4 x5 x6 x7 = fun _ => 1#1) : Holds x1 x3 x4 x5 x6 x7 := by
  have e := congrFun h ix0
  unfold fn fn_part1 fn_part2 at e
  obtain ⟨e, hlast⟩ := IntOp.andi_eq_one.1 e
  obtain ⟨e, hfirst⟩ := IntOp.andi_eq_one.1 e
  obtain ⟨e, hbound⟩ := IntOp.andi_eq_one.1 e
  obtain ⟨e, htoken⟩ := IntOp.andi_eq_one.1 e
  obtain ⟨e, hbias⟩ := IntOp.andi_eq_one.1 e
  obtain ⟨e, hweight⟩ := IntOp.andi_eq_one.1 e
  obtain ⟨hgamma, hbeta⟩ := IntOp.andi_eq_one.1 e
  refine ⟨?_, ?_, ?_, ?_, ?_, ?_, ?_, ?_⟩
  · intro d
    exact real_of_lt _ (Host.reduce_andi_all _ _ _ _ _ hgamma (ix1 d))
  · intro d
    exact real_of_lt _ (Host.reduce_andi_all _ _ _ _ _ hbeta (ix1 d))
  · intro d j
    exact real_of_lt _ (Host.reduce_andi_all _ _ _ _ _ hweight (ix2 d j))
  · intro j
    exact real_of_lt _ (Host.reduce_andi_all _ _ _ _ _ hbias (ix1 j))
  · intro r
    obtain ⟨ha, hb⟩ := IntOp.andi_eq_one.1 (Host.reduce_andi_all _ _ _ _ _ htoken (ix1 r))
    have hs : extractStridedSlice S8191 ![1] x1 Facts.slices_S8192_S8191_1 (ix1 r)
        = x1 (ix1 (⟨r.val + 1, by omega⟩ : Fin 8192)) := by
      pointwise
      try exact congrArg x1 (congrArg ix1 (Fin.ext (Nat.add_comm _ _)))
    rw [← hs]
    exact lt_of_range _ ha hb
  · intro k
    exact lt_of_sge _ (Host.reduce_andi_all _ _ _ _ _ hbound (ix1 k))
  · have := eq_of_cmpi _ _ hfirst
    refine Eq.trans ?_ this
    symm
    pointwise
  · have := eq_of_cmpi _ _ hlast
    refine Eq.trans ?_ this
    symm
    pointwise

end Cert.Pre_in_range

end
-- ==== Proof.Equal.lean ====
module

public import proofs.«01_k».proof.Proof.HostK
public import proofs.«01_k».proof.Proof.Math
public import proofs.«01_k».proof.Proof.Pre

/-!
The kernel's quotient is the reference's result: the blocks' sums are one sum over the rows, the last row weighs nothing,
and on every other row the weights and the losses agree.
-/

@[expose] public section

set_option maxRecDepth 16384

noncomputable section

namespace Cert.Equal

open Cert.KernelIdeal Cert.KernelIdeal.Gen Cert.KernelIdeal.Value Idealize.ShloMosaic Idealize.ShloMosaic.TcCoe Idealize.SL.Sem
open Cert.ReferenceIdeal.Read (rowDiv rowE refScore logProb tokOf startOf refBit)

variable (x0 : Vec Ideal S8192x1024 .f32) (x1 : Vec Ideal S8192 .i32) (x2 : Vec Ideal S8192 .i1) (x3 : Vec Ideal S9 .i32)
  (x4 x5 : Vec Ideal S1024 .f32) (x6 : Vec Ideal S1024x8192 .f32) (x7 : Vec Ideal S8192 .f32)

open Classical in
/-- The kernel's weight of a row of the whole array. -/
def weightK (R : Fin 8192) : EReal :=
  if ∃ k : Fin 16, BitVec.ofNat 32 (R.val + 1) = cuOf x3 k then 0 else FloatOps.uitofp (F := Ideal) .f32 (maskOf x2 R)

/-- The kernel's score of a column on a row of the whole array. -/
def scoreK (R : Fin 8192) (j : Fin 8192) : EReal :=
  scoreOf (rowHat fun d => x0 (ix2 R d)) (fun d => x4 (ix1 d)) (fun d => x5 (ix1 d)) (fun d j => x6 (ix2 d j)) (fun j => x7 (ix1 j)) j

/-- The kernel's loss of a row of the whole array. -/
def nllK (R : Fin 8192) : EReal :=
  Ideal.log (Ideal.div (∑ j, Ideal.exp (scoreK x0 x4 x5 x6 x7 R j))
    (∑ j : Fin 8192, if labelOf x1 R = BitVec.ofNat 32 j.val then Ideal.exp (scoreK x0 x4 x5 x6 x7 R j) else 0))

/-- A sum over the rows, block by block. -/
theorem sum_rows (f : Fin 8192 → EReal) : ∑ R, f R = ∑ t : Fin 8, ∑ r : Fin 1024, f (rowOf t r) := by
  have h : ∀ (t : Fin 8) (r : Fin 1024), rowOf t r = finProdFinEquiv (t, r) := fun t r => Fin.ext (by simp [finProdFinEquiv, rowOf]; omega)
  simp only [h]
  rw [← Fintype.sum_prod_type' (fun (t : Fin 8) (r : Fin 1024) => f (finProdFinEquiv (t, r))), Equiv.sum_comp (finProdFinEquiv (m := 8) (n := 1024)) f]

section Kernel

variable (m : (ℓ : Loc nD τ sig) → Buf (Elt Ideal) ℓ) (c : Dev nD)

/-- A row's weight in its block is its weight in the whole array. -/
theorem valid_eq (t : Fin cfg0.N) (r : Fin 1024) : validAt (grid0.coords t) (iblk m c 3 t) (iblk m c 4 t) r
    = weightK (m ((c : Thread nD τ).loc main_arg2)) (m ((c : Thread nD τ).loc main_arg3)) (rowOf (ptOf t) r) := by
  unfold validAt weightK
  have h : HitAt (grid0.coords t) (iblk m c 4 t) r
      ↔ ∃ k : Fin 16, BitVec.ofNat 32 ((rowOf (ptOf t) r).val + 1) = cuOf (m ((c : Thread nD τ).loc main_arg3)) k := by
    unfold HitAt
    rw [coord_eq]
    exact exists_congr fun k => by rw [cu_at]; rfl
  by_cases hh : HitAt (grid0.coords t) (iblk m c 4 t) r
  · rw [if_pos hh, if_pos (h.mp hh)]
  · rw [if_neg hh, if_neg (mt h.mpr hh), mask_at]

/-- A row's score in its block is its score in the whole array. -/
theorem exp_eq (t : Fin cfg0.N) (r : Fin 1024) (j : Fin 8192) :
    expAt (iblk m c 0 t) (iblk m c 1 t) (iblk m c 5 t) (iblk m c 6 t) (wOf m c) r j
    = Ideal.exp (scoreK (m ((c : Thread nD τ).loc main_arg0)) (m ((c : Thread nD τ).loc main_arg4)) (m ((c : Thread nD τ).loc main_arg5))
      (m ((c : Thread nD τ).loc main_arg6)) (m ((c : Thread nD τ).loc main_arg7)) (rowOf (ptOf t) r) j) := by
  unfold expAt scoreK
  have h0 := funext fun d => rows_at m c t r d
  have h1 := funext fun j => bias_at m c t j
  have h5 := funext fun d => gamma_at m c t d
  have h6 := funext fun d => beta_at m c t d
  have hw := funext fun d => funext fun j => wOf_apply m c d j
  rw [h0, h1, h5, h6, hw]

/-- A row's loss in its block is its loss in the whole array. -/
theorem nll_at (t : Fin cfg0.N) (r : Fin 1024) :
    nllCol (iblk m c 0 t) (iblk m c 1 t) (iblk m c 2 t) (iblk m c 5 t) (iblk m c 6 t) (wOf m c) (ix2 r 0)
    = nllK (m ((c : Thread nD τ).loc main_arg0)) (m ((c : Thread nD τ).loc main_arg1)) (m ((c : Thread nD τ).loc main_arg4))
      (m ((c : Thread nD τ).loc main_arg5)) (m ((c : Thread nD τ).loc main_arg6)) (m ((c : Thread nD τ).loc main_arg7)) (rowOf (ptOf t) r) := by
  rw [nllCol_apply]
  unfold nllK pickAt
  simp only [exp_eq, label_at]

/-- The loss sum after the last point is a sum over all rows. -/
theorem loss_sum : lossAcc m c 7 last_lt
    = ∑ R, weightK (m ((c : Thread nD τ).loc main_arg2)) (m ((c : Thread nD τ).loc main_arg3)) R
      * nllK (m ((c : Thread nD τ).loc main_arg0)) (m ((c : Thread nD τ).loc main_arg1)) (m ((c : Thread nD τ).loc main_arg4))
        (m ((c : Thread nD τ).loc main_arg5)) (m ((c : Thread nD τ).loc main_arg6)) (m ((c : Thread nD τ).loc main_arg7)) R := by
  rw [sum_rows, Fin.sum_univ_eight]
  simp only [lossAcc, blockLoss, valid_eq, nll_at, zero_add]
  rfl

/-- The count after the last point is a sum over all rows. -/
theorem count_sum : countAcc m c 7 last_lt
    = ∑ R, weightK (m ((c : Thread nD τ).loc main_arg2)) (m ((c : Thread nD τ).loc main_arg3)) R := by
  rw [sum_rows, Fin.sum_univ_eight]
  simp only [countAcc, blockCount, valid_eq, zero_add]
  rfl

end Kernel

/-- The last row weighs nothing. -/
theorem weight_last : weightK x2 x3 (Fin.last 8191) = 0 := by
  unfold weightK
  by_cases h : ∃ k : Fin 16, BitVec.ofNat 32 ((Fin.last 8191).val + 1) = cuOf x3 k
  · rw [if_pos h]
  · rw [if_neg h]
    have hm : maskOf x2 (Fin.last 8191) = 0#1 := dif_neg (by show ¬(8191 + 1 < 8192); decide)
    rw [hm]
    show (((0#1 : BitVec 1).toNat : ℝ) : EReal) = 0
    simp

variable {x1 x3 x4 x5 x6 x7} (hp : Cert.Pre_in_range.Holds x1 x3 x4 x5 x6 x7)
include hp

/-- On the other rows the kernel takes out the rows that the reference does. -/
theorem hit_eq (r : Fin 8191) : (∃ k : Fin 16, BitVec.ofNat 32 (r.castSucc.val + 1) = cuOf x3 k)
    ↔ ∃ k : Fin 7, (startOf x3 k).toNat = r.val + 1 := by
  have hr : (BitVec.ofNat 32 (r.val + 1)).toNat = r.val + 1 := by
    rw [BitVec.toNat_ofNat, Nat.mod_eq_of_lt (by omega)]
  constructor
  · rintro ⟨k, h⟩
    have h' := congrArg BitVec.toNat h
    rw [Fin.val_castSucc, hr] at h'
    unfold cuOf at h'
    by_cases h9 : k.val < 9
    · rw [dif_pos h9] at h'
      rcases Nat.eq_zero_or_pos k.val with h0 | h0
      · have e : (⟨k.val, h9⟩ : Fin 9) = 0 := Fin.ext h0
        rw [e, hp.first] at h'
        exact absurd h' (by simp)
      · by_cases h8 : k.val = 8
        · have e : (⟨k.val, h9⟩ : Fin 9) = 8 := Fin.ext h8
          rw [e, hp.last] at h'
          have := r.isLt
          have h2 : (8192#32 : BitVec 32).toNat = 8192 := rfl
          omega
        · refine ⟨⟨k.val - 1, by omega⟩, ?_⟩
          have e : (⟨k.val, h9⟩ : Fin 9) = ⟨k.val - 1 + 1, by omega⟩ := Fin.ext (by show k.val = k.val - 1 + 1; omega)
          rw [e] at h'
          exact h'.symm
    · rw [dif_neg h9] at h'
      exact absurd h' (by simp)
  · rintro ⟨k, h⟩
    refine ⟨⟨k.val + 1, by omega⟩, ?_⟩
    have e : cuOf x3 ⟨k.val + 1, by omega⟩ = startOf x3 k := dif_pos (by show k.val + 1 < 9; omega)
    rw [e]
    apply BitVec.eq_of_toNat_eq
    rw [Fin.val_castSucc, hr, h]

/-- On the other rows the weights agree. -/
theorem weight_eq_ref (r : Fin 8191) : weightK x2 x3 r.castSucc = FloatOps.uitofp (F := Ideal) .f32 (refBit x2 x3 r) := by
  unfold weightK refBit
  by_cases h : ∃ k : Fin 7, (startOf x3 k).toNat = r.val + 1
  · rw [if_pos ((hit_eq hp r).mpr h), if_pos h]
    show (0 : EReal) = (((0#1 : BitVec 1).toNat : ℝ) : EReal)
    simp
  · rw [if_neg (mt (hit_eq hp r).mp h), if_neg h]
    have hm : maskOf x2 r.castSucc = x2 (ix1 (⟨r.val + 1, by omega⟩ : Fin 8192)) := dif_pos (by show r.val + 1 < 8192; omega)
    rw [hm]

/-- The labels are columns. -/
theorem tok_lt (r : Fin 8191) : (tokOf x1 r).toNat < 8192 := hp.token r

/-- On the other rows the losses agree. -/
theorem nll_eq_ref (r : Fin 8191) : nllK x0 x1 x4 x5 x6 x7 r.castSucc
    = -logProb (refScore x0 x4 x5 x6 x7 r) ⟨(tokOf x1 r).toNat, tok_lt hp r⟩ := by
  have hrow : rowHat (fun d => x0 (ix2 r.castSucc d)) = rowDiv (rowE x0 r) := funext fun d => by
    obtain ⟨z, h1, h2⟩ := Cert.Rows.hat_real (rowE x0 r) d
    exact h1.trans h2.symm
  have hs : scoreK x0 x4 x5 x6 x7 r.castSucc = refScore x0 x4 x5 x6 x7 r := funext fun j => by
    unfold scoreK refScore
    rw [hrow]
  obtain ⟨s, hsr⟩ := Cert.Rows.score_real (rowDiv (rowE x0 r)) (fun d => x4 (ix1 d)) (fun d => x5 (ix1 d)) (fun d j => x6 (ix2 d j))
    (fun j => x7 (ix1 j)) (fun d => (Cert.Rows.hat_real (rowE x0 r) d).imp fun _ h => h.2) hp.gamma hp.beta hp.weight hp.bias
  have hr : refScore x0 x4 x5 x6 x7 r = fun j => (s j : EReal) := funext hsr
  have hl : labelOf x1 r.castSucc = tokOf x1 r := dif_pos (by show r.val + 1 < 8192; omega)
  have hj : ∀ j : Fin 8192, (tokOf x1 r = BitVec.ofNat 32 j.val) ↔ (⟨(tokOf x1 r).toNat, tok_lt hp r⟩ : Fin 8192) = j := fun j => by
    have hjn : (BitVec.ofNat 32 j.val).toNat = j.val := by rw [BitVec.toNat_ofNat, Nat.mod_eq_of_lt (by omega)]
    constructor
    · intro h
      exact Fin.ext ((congrArg BitVec.toNat h).trans hjn)
    · intro h
      exact BitVec.eq_of_toNat_eq ((congrArg Fin.val h).trans hjn.symm)
  unfold nllK
  rw [hs, hl, hr]
  simp only [hj]
  exact Cert.Rows.nll_eq s _

/-- The kernel's sums give the reference's result. -/
theorem quotient_eq (i : S_.Idx) :
    Ideal.div (∑ R, weightK x2 x3 R * nllK x0 x1 x4 x5 x6 x7 R) (max (∑ R, weightK x2 x3 R) 1)
      = Cert.ReferenceIdeal.Read.val_main_v44 x0 x1 x2 x3 x4 x5 x6 x7 i := by
  rw [Cert.ReferenceIdeal.Read.ref_apply x0 x1 x2 x3 x4 x5 x6 x7 (fun k => hp.bound _) (tok_lt hp) i]
  rw [Fin.sum_univ_castSucc (n := 8191) (fun R => weightK x2 x3 R * nllK x0 x1 x4 x5 x6 x7 R),
    Fin.sum_univ_castSucc (n := 8191) (fun R => weightK x2 x3 R), weight_last, zero_mul, add_zero, add_zero]
  simp only [weight_eq_ref x2 hp, nll_eq_ref x0 hp]
  simp only [mul_comm]

end Cert.Equal

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_range
public import proofs.«01_k».proof.Proof.Equal
public import Idealize.ShloMosaic.Adequacy
public import Idealize.ShloMosaic.Init

@[expose] public section

noncomputable section

namespace Cert.Proof

open Idealize.ShloMosaic Idealize.SL.Sem

/-- The reference runs and leaves its arguments and the counters as they were. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Under the precondition the kernel's number is the reference's result. -/
theorem value_eq (m : (ℓ : Loc Cert.KernelIdeal.nD Cert.KernelIdeal.τ Cert.KernelIdeal.sig) → Buf (Elt Ideal) ℓ)
    (hp : Cert.Pre_KernelIdeal_in_range m) (c : Dev Cert.KernelIdeal.nD) (i : Cert.KernelIdeal.S_.Idx) :
    Cert.KernelIdeal.Value.quotient m c = Cert.ReferenceIdeal.Read.val_main_v44
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) i := by
  unfold Cert.KernelIdeal.Value.quotient
  rw [Cert.Equal.loss_sum, Cert.Equal.count_sum]
  exact Cert.Equal.quotient_eq _ _ (Cert.Pre_in_range.holds_of _ _ _ _ _ _ _ _ (hp c)) i

/-- The idealized kernel and the idealized reference end with equal results. -/
theorem algebraic : Cert.algebraic_KernelIdeal_ReferenceIdeal_pre_in_range := by
  intro m ρ m' ρ' hp hagree
  refine ⟨fun c => (fun _ => Cert.KernelIdeal.Value.quotient m c), ?_, ?_⟩
  · refine (θ_run Cert.KernelIdeal.defs _ _).mono (fun r h c => ⟨?_, h.2 c⟩)
      (θ_run_and (Cert.KernelIdeal.Gen.run_main m ρ) (Cert.KernelIdeal.Gen.unchanged m ρ))
    exact ((h.1 c).2 Cert.KernelIdeal.main_v18 (by decide)).trans (Cert.KernelIdeal.Value.tail_eq m c)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v44_eq, e0, e1, e2, e3, e4, e5, e6, e7]
    exact funext fun i => (value_eq m hp c i).symm

/-- All the claims together. -/
theorem claim : Cert.Claim := ⟨Cert.Kernel.Gen.facts, Cert.KernelIdeal.Gen.facts, Cert.ReferenceIdeal.Gen.facts, Cert.Pre_in_range.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
